-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_tame [hPre_inputs_tame : Cert.Pre_inputs_tame.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_tame [hPre_inputs_tame : Cert.Pre_inputs_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_inputs_tame [hKernelIdeal : Cert.KernelIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_inputs_tame [hReferenceIdeal : Cert.ReferenceIdeal.Facts] [hPre_inputs_tame : Cert.Pre_inputs_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_inputs_tame [hKernelIdeal : Cert.KernelIdeal.Facts] [hReferenceIdeal : Cert.ReferenceIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_inputs_tame : Cert.Pre_inputs_tame.Facts),
    quiescent_Kernel (hKernel := hKernel)
    ∧ quiescent_KernelIdeal (hKernelIdeal := hKernelIdeal)
    ∧ quiescent_KernelIdeal_pre_inputs_tame (hKernelIdeal := hKernelIdeal) (hPre_inputs_tame := hPre_inputs_tame)
    ∧ quiescent_ReferenceIdeal (hReferenceIdeal := hReferenceIdeal)
    ∧ quiescent_ReferenceIdeal_pre_inputs_tame (hReferenceIdeal := hReferenceIdeal) (hPre_inputs_tame := hPre_inputs_tame)
    ∧ preserves_Kernel_KernelIdeal
    ∧ algebraic_KernelIdeal_ReferenceIdeal_pre_inputs_tame (hKernelIdeal := hKernelIdeal) (hReferenceIdeal := hReferenceIdeal) (hPre_inputs_tame := hPre_inputs_tame)
-- ==== Pre_inputs_tame.lean ====
abbrev S1x256x1152 : Shape := ⟨3, ![1, 256, 1152]⟩
abbrev S1152x27648 : Shape := ⟨2, ![1152, 27648]⟩
abbrev S27648 : Shape := ⟨1, ![27648]⟩
abbrev S1152x16 : Shape := ⟨2, ![1152, 16]⟩
abbrev S16x27648 : Shape := ⟨2, ![16, 27648]⟩
abbrev S_ : Shape := ⟨0, ![]⟩
abbrev S1x256 : Shape := ⟨2, ![1, 256]⟩

class Facts : Prop where
  bitsLt_bf16_f32 : FTy.bits .bf16 < FTy.bits .f32
  reducesTo_S1x256x1152_S1x256_d2 : S1x256x1152.ReducesTo [2] S1x256
  h_S_ : 0 < S_.numel
  bcast_S_S1x256 : S_.BroadcastsInDim S1x256 (![] : Fin 0 → Fin S1x256.rank)
  natLt_8_32 : 8 < 32
  reducesTo_S1x256_S_d0_1 : S1x256.ReducesTo [0, 1] S_
  bcast_S_S1152x27648 : S_.BroadcastsInDim S1152x27648 (![] : Fin 0 → Fin S1152x27648.rank)
  reducesTo_S1152x27648_S_d0_1 : S1152x27648.ReducesTo [0, 1] S_
  bcast_S_S27648 : S_.BroadcastsInDim S27648 (![] : Fin 0 → Fin S27648.rank)
  reducesTo_S27648_S_d0 : S27648.ReducesTo [0] S_
  bcast_S_S1152x16 : S_.BroadcastsInDim S1152x16 (![] : Fin 0 → Fin S1152x16.rank)
  reducesTo_S1152x16_S_d0_1 : S1152x16.ReducesTo [0, 1] S_
  bcast_S_S16x27648 : S_.BroadcastsInDim S16x27648 (![] : Fin 0 → Fin S16x27648.rank)
  reducesTo_S16x27648_S_d0_1 : S16x27648.ReducesTo [0, 1] S_

variable [Facts]

def fn_part2 {F : FTy → Type} [FloatOps F] (main_arg4 : FVec F S16x27648 .bf16) (main_v30 : IVec S_ 1) (main_v32 : FVec F S1152x16 .f32) (main_v33 : FVec F S1152x16 .f32) : IVec S_ 1 :=
  let main_v34 : IVec S1152x16 1 := cmpf .olt main_v32 main_v33
  let main_c_12 : IVec S_ 1 := constantI S_ 1 1#1
  let main_v35 : IVec S_ 1 := (fun x v => Host.reduce IntOp.andi x v reducesTo_S1152x16_S_d0_1 h_S_) main_v34 main_c_12
  let main_v36 : IVec S_ 1 := andi main_v30 main_v35
  let main_v37 : FVec F S16x27648 .f32 := (extf .f32 · bitsLt_bf16_f32) main_arg4
  let main_v38 : FVec F S16x27648 .f32 := Host.absf main_v37
  let main_cst_13 : FVec F S_ .f32 := constant S_ .f32 0x7F800000#32
  let main_v39 : FVec F S16x27648 .f32 := broadcastInDim S16x27648 ![] bcast_S_S16x27648 main_cst_13
  let main_v40 : IVec S16x27648 1 := cmpf .olt main_v38 main_v39
  let main_c_14 : IVec S_ 1 := constantI S_ 1 1#1
  let main_v41 : IVec S_ 1 := (fun x v => Host.reduce IntOp.andi x v reducesTo_S16x27648_S_d0_1 h_S_) main_v40 main_c_14
  let main_v42 : IVec S_ 1 := andi main_v36 main_v41
  main_v42

def fn_part1 {F : FTy → Type} [FloatOps F] (main_arg3 : FVec F S1152x16 .bf16) (main_arg4 : FVec F S16x27648 .bf16) (main_v10 : IVec S1152x27648 32) (main_v11 : FVec F S27648 .f32) (main_v16 : IVec S_ 1) : IVec S_ 1 :=
  let main_c_5 : IVec S_ 32 := constantI S_ 32 127#32
  let main_v17 : IVec S1152x27648 32 := broadcastInDim S1152x27648 ![] bcast_S_S1152x27648 main_c_5
  let main_v18 : IVec S1152x27648 1 := cmpi .ne main_v10 main_v17
  let main_c_6 : IVec S_ 32 := constantI S_ 32 4294967295#32
  let main_v19 : IVec S1152x27648 32 := broadcastInDim S1152x27648 ![] bcast_S_S1152x27648 main_c_6
  let main_v20 : IVec S1152x27648 1 := cmpi .ne main_v10 main_v19
  let main_v21 : IVec S1152x27648 1 := andi main_v18 main_v20
  let main_c_7 : IVec S_ 1 := constantI S_ 1 1#1
  let main_v22 : IVec S_ 1 := (fun x v => Host.reduce IntOp.andi x v reducesTo_S1152x27648_S_d0_1 h_S_) main_v21 main_c_7
  let main_v23 : IVec S_ 1 := andi main_v16 main_v22
  let main_cst_8 : FVec F S_ .f32 := constant S_ .f32 0x00000000#32
  let main_v24 : FVec F S27648 .f32 := broadcastInDim S27648 ![] bcast_S_S27648 main_cst_8
  let main_v25 : IVec S27648 1 := cmpf .ogt main_v11 main_v24
  let main_cst_9 : FVec F S_ .f32 := constant S_ .f32 0x7F800000#32
  let main_v26 : FVec F S27648 .f32 := broadcastInDim S27648 ![] bcast_S_S27648 main_cst_9
  let main_v27 : IVec S27648 1 := cmpf .olt main_v11 main_v26
  let main_v28 : IVec S27648 1 := andi main_v25 main_v27
  let main_c_10 : IVec S_ 1 := constantI S_ 1 1#1
  let main_v29 : IVec S_ 1 := (fun x v => Host.reduce IntOp.andi x v reducesTo_S27648_S_d0 h_S_) main_v28 main_c_10
  let main_v30 : IVec S_ 1 := andi main_v23 main_v29
  let main_v31 : FVec F S1152x16 .f32 := (extf .f32 · bitsLt_bf16_f32) main_arg3
  let main_v32 : FVec F S1152x16 .f32 := Host.absf main_v31
  let main_cst_11 : FVec F S_ .f32 := constant S_ .f32 0x7F800000#32
  let main_v33 : FVec F S1152x16 .f32 := broadcastInDim S1152x16 ![] bcast_S_S1152x16 main_cst_11
  fn_part2 (F := F) main_arg4 main_v30 main_v32 main_v33

def fn {F : FTy → Type} [FloatOps F] (main_arg0 : FVec F S1x256x1152 .bf16) (main_arg1 : IVec S1152x27648 8) (main_arg2 : FVec F S27648 .f32) (main_arg3 : FVec F S1152x16 .bf16) (main_arg4 : FVec F S16x27648 .bf16) (main_arg5 : FVec F S27648 .f32) : IVec S_ 1 :=
  let main_v0 : FVec F S1x256x1152 .f32 := (extf .f32 · bitsLt_bf16_f32) main_arg0
  let main_v1 : FVec F S1x256x1152 .f32 := Host.absf main_v0
  let main_cst : FVec F S_ .f32 := constant S_ .f32 0xFF800000#32
  let main_v2 : FVec F S1x256 .f32 := (fun x v => Host.reduce FloatOps.maximumf x v reducesTo_S1x256x1152_S1x256_d2 h_S_) main_v1 main_cst
  let main_cst_0 : FVec F S_ .f32 := constant S_ .f32 0x00000000#32
  let main_v3 : FVec F S1x256 .f32 := broadcastInDim S1x256 ![] bcast_S_S1x256 main_cst_0
  let main_v4 : IVec S1x256 1 := cmpf .oeq main_v2 main_v3
  let main_cst_1 : FVec F S_ .f32 := constant S_ .f32 0x3B124925#32
  let main_v5 : FVec F S1x256 .f32 := broadcastInDim S1x256 ![] bcast_S_S1x256 main_cst_1
  let main_v6 : FVec F S1x256 .f32 := mulf main_v2 main_v5
  let main_cst_2 : FVec F S_ .f32 := constant S_ .f32 0x00800000#32
  let main_v7 : FVec F S1x256 .f32 := broadcastInDim S1x256 ![] bcast_S_S1x256 main_cst_2
  let main_v8 : IVec S1x256 1 := cmpf .oge main_v6 main_v7
  let main_v9 : IVec S1x256 1 := ori main_v4 main_v8
  let main_v10 : IVec S1152x27648 32 := (extsi 32 · natLt_8_32) main_arg1
  let main_v11 : FVec F S27648 .f32 := Host.absf main_arg2
  let main_cst_3 : FVec F S_ .f32 := constant S_ .f32 0x7F7F0000#32
  let main_v12 : FVec F S1x256 .f32 := broadcastInDim S1x256 ![] bcast_S_S1x256 main_cst_3
  let main_v13 : IVec S1x256 1 := cmpf .ole main_v2 main_v12
  let main_c : IVec S_ 1 := constantI S_ 1 1#1
  let main_v14 : IVec S_ 1 := (fun x v => Host.reduce IntOp.andi x v reducesTo_S1x256_S_d0_1 h_S_) main_v13 main_c
  let main_c_4 : IVec S_ 1 := constantI S_ 1 1#1
  let main_v15 : IVec S_ 1 := (fun x v => Host.reduce IntOp.andi x v reducesTo_S1x256_S_d0_1 h_S_) main_v9 main_c_4
  let main_v16 : IVec S_ 1 := andi main_v14 main_v15
  fn_part1 (F := F) main_arg3 main_arg4 main_v10 main_v11 main_v16
-- ==== Kernel.lean ====
abbrev S1x256x1152 : Shape := ⟨3, ![1, 256, 1152]⟩
abbrev S1152x27648 : Shape := ⟨2, ![1152, 27648]⟩
abbrev S27648 : Shape := ⟨1, ![27648]⟩
abbrev S1152x16 : Shape := ⟨2, ![1152, 16]⟩
abbrev S16x27648 : Shape := ⟨2, ![16, 27648]⟩
abbrev S256x1152 : Shape := ⟨2, ![256, 1152]⟩
abbrev S1x27648 : Shape := ⟨2, ![1, 27648]⟩
abbrev S16x1152 : Shape := ⟨2, ![16, 1152]⟩
abbrev S256x27648 : Shape := ⟨2, ![256, 27648]⟩
abbrev S1x256 : Shape := ⟨2, ![1, 256]⟩
abbrev S1152x1536 : Shape := ⟨2, ![1152, 1536]⟩
abbrev S1x1536 : Shape := ⟨2, ![1, 1536]⟩
abbrev S16x1536 : Shape := ⟨2, ![16, 1536]⟩
abbrev S256x1536 : Shape := ⟨2, ![256, 1536]⟩
abbrev S256x224 : Shape := ⟨2, ![256, 224]⟩
abbrev S16x224 : Shape := ⟨2, ![16, 224]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S256x16 : Shape := ⟨2, ![256, 16]⟩
abbrev S16x16 : Shape := ⟨2, ![16, 16]⟩
abbrev S16x128 : Shape := ⟨2, ![16, 128]⟩
abbrev S1024x1536 : Shape := ⟨2, ![1024, 1536]⟩
abbrev S128x1536 : Shape := ⟨2, ![128, 1536]⟩
abbrev S224x1536 : Shape := ⟨2, ![224, 1536]⟩
abbrev S16x1024 : Shape := ⟨2, ![16, 1024]⟩
abbrev S1536 : Shape := ⟨1, ![1536]⟩
abbrev S32x128 : Shape := ⟨2, ![32, 128]⟩
abbrev S128 : Shape := ⟨1, ![128]⟩
abbrev S1x128 : Shape := ⟨2, ![1, 128]⟩
abbrev S256x1024 : Shape := ⟨2, ![256, 1024]⟩

abbrev nBuf : Space → Nat
  | .hbm => 15
  | .vmem => 19
  | .smem => 0
  | _ => 0

abbrev bufTy : (tb : Table) → Fin (tcTables nBuf tb) → BufTy
  | .hbm, ⟨0, _⟩ => ⟨S1x256x1152, .bf16⟩
  | .hbm, ⟨1, _⟩ => ⟨S1152x27648, .i8⟩
  | .hbm, ⟨2, _⟩ => ⟨S27648, .f32⟩
  | .hbm, ⟨3, _⟩ => ⟨S1152x16, .bf16⟩
  | .hbm, ⟨4, _⟩ => ⟨S16x27648, .bf16⟩
  | .hbm, ⟨5, _⟩ => ⟨S27648, .f32⟩
  | .hbm, ⟨6, _⟩ => ⟨S1152x27648, .fp8e4m3⟩
  | .hbm, ⟨7, _⟩ => ⟨S256x1152, .bf16⟩
  | .hbm, ⟨8, _⟩ => ⟨S1x27648, .f32⟩
  | .hbm, ⟨9, _⟩ => ⟨S16x1152, .bf16⟩
  | .hbm, ⟨10, _⟩ => ⟨S1x27648, .f32⟩
  | .hbm, ⟨11, _⟩ => ⟨S256x27648, .bf16⟩
  | .hbm, ⟨12, _⟩ => ⟨S1x27648, .f32⟩
  | .hbm, ⟨13, _⟩ => ⟨S256x1152, .fp8e4m3⟩
  | .hbm, ⟨14, _⟩ => ⟨S1x256, .f32⟩
  | .local _ .vmem, ⟨0, _⟩ => ⟨S256x1152, .bf16⟩
  | .local _ .vmem, ⟨1, _⟩ => ⟨S1152x1536, .fp8e4m3⟩
  | .local _ .vmem, ⟨2, _⟩ => ⟨S1152x1536, .fp8e4m3⟩
  | .local _ .vmem, ⟨3, _⟩ => ⟨S1x1536, .f32⟩
  | .local _ .vmem, ⟨4, _⟩ => ⟨S1x1536, .f32⟩
  | .local _ .vmem, ⟨5, _⟩ => ⟨S16x1152, .bf16⟩
  | .local _ .vmem, ⟨6, _⟩ => ⟨S16x1536, .bf16⟩
  | .local _ .vmem, ⟨7, _⟩ => ⟨S16x1536, .bf16⟩
  | .local _ .vmem, ⟨8, _⟩ => ⟨S1x1536, .f32⟩
  | .local _ .vmem, ⟨9, _⟩ => ⟨S1x1536, .f32⟩
  | .local _ .vmem, ⟨10, _⟩ => ⟨S256x1536, .bf16⟩
  | .local _ .vmem, ⟨11, _⟩ => ⟨S256x1536, .bf16⟩
  | .local _ .vmem, ⟨12, _⟩ => ⟨S1x1536, .f32⟩
  | .local _ .vmem, ⟨13, _⟩ => ⟨S1x1536, .f32⟩
  | .local _ .vmem, ⟨14, _⟩ => ⟨S256x1152, .fp8e4m3⟩
  | .local _ .vmem, ⟨15, _⟩ => ⟨S1x256, .f32⟩
  | .local _ .vmem, ⟨16, _⟩ => ⟨S256x224, .bf16⟩
  | .local _ .vmem, ⟨17, _⟩ => ⟨S16x224, .bf16⟩
  | .local _ .vmem, ⟨18, _⟩ => ⟨S256x128, .f32⟩
  | _, _ => ⟨S1x256x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1152x1536 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x1152 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1x256x1152 : Shape := ⟨3, ![1, 256, 1152]⟩
abbrev S1152x27648 : Shape := ⟨2, ![1152, 27648]⟩
abbrev S27648 : Shape := ⟨1, ![27648]⟩
abbrev S1152x16 : Shape := ⟨2, ![1152, 16]⟩
abbrev S16x27648 : Shape := ⟨2, ![16, 27648]⟩
abbrev S256x1152 : Shape := ⟨2, ![256, 1152]⟩
abbrev S1x27648 : Shape := ⟨2, ![1, 27648]⟩
abbrev S256x27648 : Shape := ⟨2, ![256, 27648]⟩
abbrev S1x256 : Shape := ⟨2, ![1, 256]⟩
abbrev S256 : Shape := ⟨1, ![256]⟩
abbrev S256x1 : Shape := ⟨2, ![256, 1]⟩
abbrev S1x254 : Shape := ⟨2, ![1, 254]⟩
abbrev S256x254 : Shape := ⟨2, ![256, 254]⟩
abbrev S256x16 : Shape := ⟨2, ![256, 16]⟩

abbrev nBuf : Space → Nat
  | .hbm => 14
  | .vmem => 10
  | .smem => 0
  | _ => 0

abbrev bufTy : (tb : Table) → Fin (tcTables nBuf tb) → BufTy
  | .hbm, ⟨0, _⟩ => ⟨S1x256x1152, .bf16⟩
  | .hbm, ⟨1, _⟩ => ⟨S1152x27648, .i8⟩
  | .hbm, ⟨2, _⟩ => ⟨S27648, .f32⟩
  | .hbm, ⟨3, _⟩ => ⟨S1152x16, .bf16⟩
  | .hbm, ⟨4, _⟩ => ⟨S16x27648, .bf16⟩
  | .hbm, ⟨5, _⟩ => ⟨S27648, .f32⟩
  | .hbm, ⟨6, _⟩ => ⟨S1152x27648, .fp8e4m3⟩
  | .hbm, ⟨7, _⟩ => ⟨S256x1152, .bf16⟩
  | .hbm, ⟨8, _⟩ => ⟨S1x27648, .f32⟩
  | .hbm, ⟨9, _⟩ => ⟨S1x27648, .f32⟩
  | .hbm, ⟨10, _⟩ => ⟨S256x27648, .bf16⟩
  | .hbm, ⟨11, _⟩ => ⟨S1x27648, .f32⟩
  | .hbm, ⟨12, _⟩ => ⟨S256x1152, .fp8e4m3⟩
  | .hbm, ⟨13, _⟩ => ⟨S1x256, .f32⟩
  | .local _ .vmem, ⟨0, _⟩ => ⟨S256x1152, .bf16⟩
  | .local _ .vmem, ⟨1, _⟩ => ⟨S1152x27648, .fp8e4m3⟩
  | .local _ .vmem, ⟨2, _⟩ => ⟨S1x27648, .f32⟩
  | .local _ .vmem, ⟨3, _⟩ => ⟨S1152x16, .bf16⟩
  | .local _ .vmem, ⟨4, _⟩ => ⟨S16x27648, .bf16⟩
  | .local _ .vmem, ⟨5, _⟩ => ⟨S1x27648, .f32⟩
  | .local _ .vmem, ⟨6, _⟩ => ⟨S256x27648, .bf16⟩
  | .local _ .vmem, ⟨7, _⟩ => ⟨S1x27648, .f32⟩
  | .local _ .vmem, ⟨8, _⟩ => ⟨S256x1152, .fp8e4m3⟩
  | .local _ .vmem, ⟨9, _⟩ => ⟨S1x256, .f32⟩
  | _, _ => ⟨S1x256x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S256x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x27648 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x27648 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x27648 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x27648 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x27648 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x27648 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1152 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.K.Runs.lean ====
/- What the runs of the kernel body are stated over: when the body's branch is taken, which windows
   are written at every point, the staging and scratch buffers by name. -/
module

public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 18 = 0 :=
  (fun t => by
    have ht : t.val < 18 := Nat.lt_of_lt_of_eq t.isLt N_0
    have e0 : (grid0.coords t 0).val = t.val / 1 % 18 := Pipeline.Grid.coords_val t 0 (by decide) rfl
    simp only [cond0_0, k0_cond1, e0]
    word_cmp
   : ∀ t : Fin grid0.N, cond0_0 (grid0.coords t) ↔ t.val % 18 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x1152 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1152x1536 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1152 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1536 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1536 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1152 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S256x224 .bf16 := Memref.whole cc0_scratch0
abbrev scM0_1 : Memref sig .tc .vmem S16x224 .bf16 := Memref.whole cc0_scratch1
abbrev scM0_2 : Memref sig .tc .vmem S256x128 .f32 := Memref.whole cc0_scratch2

/-- The loop's invariant before the first point: each scratch buffer at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.K.RunA.lean ====
/- The run of the kernel body at the first grid point, where the prologue is taken. -/
module

public import proofs.«01_k».proof.Proof.K.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2636000 in
/-- The body at the first point (the branch taken), on whole buffers: from the inputs' contents it runs to
    the same inputs, and to each output and scratch buffer at the pieces the run stores in it. -/
noncomputable def kernelRun0_A (c : Dev nD) (i : grid0.Coords) (arg1 : Memref sig .tc .vmem S256x1152 .bf16) (harg1 : arg1.IsWhole) (arg2 : Memref sig .tc .vmem S1152x1536 .fp8e4m3) (harg2 : arg2.IsWhole) (arg3 : Memref sig .tc .vmem S1x1536 .f32) (harg3 : arg3.IsWhole) (arg4 : Memref sig .tc .vmem S16x1152 .bf16) (harg4 : arg4.IsWhole) (arg5 : Memref sig .tc .vmem S16x1536 .bf16) (harg5 : arg5.IsWhole) (arg6 : Memref sig .tc .vmem S1x1536 .f32) (harg6 : arg6.IsWhole) (arg7 : Memref sig .tc .vmem S256x1536 .bf16) (harg7 : arg7.IsWhole) (arg8 : Memref sig .tc .vmem S1x1536 .f32) (harg8 : arg8.IsWhole) (arg9 : Memref sig .tc .vmem S256x1152 .fp8e4m3) (harg9 : arg9.IsWhole) (arg10 : Memref sig .tc .vmem S1x256 .f32) (harg10 : arg10.IsWhole) (arg11 : Memref sig .tc .vmem S256x224 .bf16) (harg11 : arg11.IsWhole) (arg12 : Memref sig .tc .vmem S16x224 .bf16) (harg12 : arg12.IsWhole) (arg13 : Memref sig .tc .vmem S256x128 .f32) (harg13 : arg13.IsWhole) (hc0 : cond0_0 i)
    (x0 : Vec F S256x1152 .bf16) (x1 : Vec F S1152x1536 .fp8e4m3) (x2 : Vec F S1x1536 .f32) (x3 : Vec F S16x1152 .bf16) (x4 : Vec F S16x1536 .bf16) (x5 : Vec F S1x1536 .f32) :
    Σ' (L6 : List (View.Piece (Elt F) S256x1536 .bf16)), Σ' (L7 : List (View.Piece (Elt F) S1x1536 .f32)), Σ' (L8 : List (View.Piece (Elt F) S256x1152 .fp8e4m3)), Σ' (L9 : List (View.Piece (Elt F) S1x256 .f32)), Σ' (LS0 : List (View.Piece (Elt F) S256x224 .bf16)), Σ' (LS1 : List (View.Piece (Elt F) S16x224 .bf16)), { LS2 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0_dora_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0_dora_fp8_eq_skeleton]; unfold cc0_dora_fp8_skel
    simp only [k0_part92_eq_skeleton, k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    iexists _; iexact HS2

end Cert.Kernel.Gen

end
-- ==== Proof.K.RunB.lean ====
/- The run of the kernel body at a later grid point, where the prologue is not taken. -/
module

public import proofs.«01_k».proof.Proof.K.RunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2548000 in
/-- The body at a later point (the branch not taken), on whole buffers: it stores results 0 and 1 and leaves
    the inputs, results 2 and 3 and the scratch as it found them. -/
noncomputable def kernelRun0_B (c : Dev nD) (i : grid0.Coords) (arg1 : Memref sig .tc .vmem S256x1152 .bf16) (harg1 : arg1.IsWhole) (arg2 : Memref sig .tc .vmem S1152x1536 .fp8e4m3) (harg2 : arg2.IsWhole) (arg3 : Memref sig .tc .vmem S1x1536 .f32) (harg3 : arg3.IsWhole) (arg4 : Memref sig .tc .vmem S16x1152 .bf16) (harg4 : arg4.IsWhole) (arg5 : Memref sig .tc .vmem S16x1536 .bf16) (harg5 : arg5.IsWhole) (arg6 : Memref sig .tc .vmem S1x1536 .f32) (harg6 : arg6.IsWhole) (arg7 : Memref sig .tc .vmem S256x1536 .bf16) (harg7 : arg7.IsWhole) (arg8 : Memref sig .tc .vmem S1x1536 .f32) (harg8 : arg8.IsWhole) (arg9 : Memref sig .tc .vmem S256x1152 .fp8e4m3) (harg9 : arg9.IsWhole) (arg10 : Memref sig .tc .vmem S1x256 .f32) (harg10 : arg10.IsWhole) (arg11 : Memref sig .tc .vmem S256x224 .bf16) (harg11 : arg11.IsWhole) (arg12 : Memref sig .tc .vmem S16x224 .bf16) (harg12 : arg12.IsWhole) (arg13 : Memref sig .tc .vmem S256x128 .f32) (harg13 : arg13.IsWhole) (hc0 : ¬cond0_0 i)
    (x0 : Vec F S256x1152 .bf16) (x1 : Vec F S1152x1536 .fp8e4m3) (x2 : Vec F S1x1536 .f32) (x3 : Vec F S16x1152 .bf16) (x4 : Vec F S16x1536 .bf16) (x5 : Vec F S1x1536 .f32) (xo8 : Vec F S256x1152 .fp8e4m3) (xo9 : Vec F S1x256 .f32) (xs0 : Vec F S256x224 .bf16) (xs1 : Vec F S16x224 .bf16) (xs2 : Vec F S256x128 .f32) :
    Σ' (L6 : List (View.Piece (Elt F) S256x1536 .bf16)), { L7 : List (View.Piece (Elt F) S1x1536 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xo8 ∗ owns (c : Thread nD τ) arg10 fullShare xo9 ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xo8 ∗ owns (c : Thread nD τ) arg10 fullShare xo9 ∗ owns (c : Thread nD τ) arg11 fullShare xs0 ∗ owns (c : Thread nD τ) arg12 fullShare xs1 ∗ owns (c : Thread nD τ) arg13 fullShare xs2) -∗ K ⟨⟩))
          ⊢ wp frame (wpE (defs₀ (F := F)) Variants.none c none) E (cc0_dora_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_dora_fp8_eq_skeleton]; unfold cc0_dora_fp8_skel
    simp only [k0_part92_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9; obtain rfl := harg11.eq_unread hfs0; obtain rfl := harg12.eq_unread hfs1; obtain rfl := harg13.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]
    · iexists _; isplitr; · ipureintro; exact harg11.read_unread _
      iexact HS0
    isplitl [HS1]
    · iexists _; isplitr; · ipureintro; exact harg12.read_unread _
      iexact HS1
    iexists _; isplitr; · ipureintro; exact harg13.read_unread _
    iexact HS2

end Cert.Kernel.Gen

end
-- ==== Proof.K.Frame.lean ====
/- The loop of the kernel: what each grid point leaves in its buffers, the body at every point, the run of the
   whole program and the frame claim. -/
module

public import proofs.«01_k».proof.Proof.K.RunB
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the buffers -/

/-- One whole buffer of each output and scratch type, to read contents off the stored pieces. -/
abbrev VO0_6 : View sig .tc .vmem S256x1536 .bf16 := (Memref.whole cc0_stg6_0 : Memref sig .tc .vmem S256x1536 .bf16).view
abbrev VO0_7 : View sig .tc .vmem S1x1536 .f32 := (Memref.whole cc0_stg7_0 : Memref sig .tc .vmem S1x1536 .f32).view
abbrev VO0_8 : View sig .tc .vmem S256x1152 .fp8e4m3 := (Memref.whole cc0_stg8_0 : Memref sig .tc .vmem S256x1152 .fp8e4m3).view
abbrev VO0_9 : View sig .tc .vmem S1x256 .f32 := (Memref.whole cc0_stg9_0 : Memref sig .tc .vmem S1x256 .f32).view
abbrev VS0_0 : View sig .tc .vmem S256x224 .bf16 := scM0_0.view
abbrev VS0_1 : View sig .tc .vmem S16x224 .bf16 := scM0_1.view
abbrev VS0_2 : View sig .tc .vmem S256x128 .f32 := scM0_2.view

/-- The first grid point. -/
abbrev t0 : Fin cfg0.N := ⟨0, by rw [show cfg0.N = 18 from N_0]; decide⟩

/-- At the first grid point the body takes the branch that quantises. -/
theorem first_t0 : cond0_0 (grid0.coords t0) := (hcond0_0 t0).mpr rfl

/-- The first point's run, on the buffers the loop hands it. -/
abbrev runA (c : Dev nD) :=
  kernelRun0_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) scM0_0 (Memref.isWhole_whole _) scM0_1 (Memref.isWhole_whole _) scM0_2 (Memref.isWhole_whole _) first_t0 (iblk m c 0 t0) (iblk m c 1 t0) (iblk m c 2 t0) (iblk m c 3 t0) (iblk m c 4 t0) (iblk m c 5 t0)

/-- The first point's pieces for result 0 cover its buffer. -/
theorem coverA_6 (c : Dev nD) (y : S256x1536.Idx) : ∃ pc ∈ (runA m c).1, y ∈ pc.1.set :=
  View.cover_of_tiledL (runA m c).1 S256x1536.size (by sl_kernel_rfl) y

/-- What the first point leaves in result 0. -/
def outA_6 (c : Dev nD) : Vec F S256x1536 .bf16 :=
  VO0_6.read (Elt F) (VO0_6.writes (Elt F) VO0_6.junk (runA m c).1)

/-- The first point's pieces for result 1 cover its buffer. -/
theorem coverA_7 (c : Dev nD) (y : S1x1536.Idx) : ∃ pc ∈ (runA m c).2.1, y ∈ pc.1.set :=
  View.cover_of_tiledL (runA m c).2.1 S1x1536.size (by sl_kernel_rfl) y

/-- What the first point leaves in result 1. -/
def outA_7 (c : Dev nD) : Vec F S1x1536 .f32 :=
  VO0_7.read (Elt F) (VO0_7.writes (Elt F) VO0_7.junk (runA m c).2.1)

/-- The first point's pieces for result 2 cover its buffer. -/
theorem coverA_8 (c : Dev nD) (y : S256x1152.Idx) : ∃ pc ∈ (runA m c).2.2.1, y ∈ pc.1.set :=
  View.cover_of_tiledL (runA m c).2.2.1 S256x1152.size (by sl_kernel_rfl) y

/-- What the first point leaves in result 2. -/
def outA_8 (c : Dev nD) : Vec F S256x1152 .fp8e4m3 :=
  VO0_8.read (Elt F) (VO0_8.writes (Elt F) VO0_8.junk (runA m c).2.2.1)

/-- The first point's pieces for result 3 cover its buffer. -/
theorem coverA_9 (c : Dev nD) (y : S1x256.Idx) : ∃ pc ∈ (runA m c).2.2.2.1, y ∈ pc.1.set :=
  View.cover_of_tiledL (runA m c).2.2.2.1 S1x256.size (by sl_kernel_rfl) y

/-- What the first point leaves in result 3. -/
def outA_9 (c : Dev nD) : Vec F S1x256 .f32 :=
  VO0_9.read (Elt F) (VO0_9.writes (Elt F) VO0_9.junk (runA m c).2.2.2.1)

/-- The first point's pieces for scratch buffer 0 cover its buffer. -/
theorem coverA_s0 (c : Dev nD) (y : S256x224.Idx) : ∃ pc ∈ (runA m c).2.2.2.2.1, y ∈ pc.1.set :=
  View.cover_of_tiledL (runA m c).2.2.2.2.1 S256x224.size (by sl_kernel_rfl) y

/-- What the first point leaves in scratch buffer 0. -/
def outA_s0 (c : Dev nD) : Vec F S256x224 .bf16 :=
  VS0_0.read (Elt F) (VS0_0.writes (Elt F) VS0_0.junk (runA m c).2.2.2.2.1)

/-- The first point's pieces for scratch buffer 1 cover its buffer. -/
theorem coverA_s1 (c : Dev nD) (y : S16x224.Idx) : ∃ pc ∈ (runA m c).2.2.2.2.2.1, y ∈ pc.1.set :=
  View.cover_of_tiledL (runA m c).2.2.2.2.2.1 S16x224.size (by sl_kernel_rfl) y

/-- What the first point leaves in scratch buffer 1. -/
def outA_s1 (c : Dev nD) : Vec F S16x224 .bf16 :=
  VS0_1.read (Elt F) (VS0_1.writes (Elt F) VS0_1.junk (runA m c).2.2.2.2.2.1)

/-- The first point's pieces for scratch buffer 2 cover its buffer. -/
theorem coverA_s2 (c : Dev nD) (y : S256x128.Idx) : ∃ pc ∈ (runA m c).2.2.2.2.2.2.1, y ∈ pc.1.set :=
  View.cover_of_tiledL (runA m c).2.2.2.2.2.2.1 S256x128.size (by sl_kernel_rfl) y

/-- What the first point leaves in scratch buffer 2. -/
def outA_s2 (c : Dev nD) : Vec F S256x128 .f32 :=
  VS0_2.read (Elt F) (VS0_2.writes (Elt F) VS0_2.junk (runA m c).2.2.2.2.2.2.1)

/-- A later point's run, on the buffers the loop hands it: results 2 and 3 and the scratch at what the first point left. -/
abbrev runB (c : Dev nD) (t : Fin cfg0.N) (h : ¬cond0_0 (grid0.coords t)) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) h (iblk m c 0 t) (iblk m c 1 t) (iblk m c 2 t) (iblk m c 3 t) (iblk m c 4 t) (iblk m c 5 t) (outA_8 m c) (outA_9 m c) (outA_s0 m c) (outA_s1 m c) (outA_s2 m c)

/-- A later point's pieces for result 0 cover its buffer. -/
theorem coverB_6 (c : Dev nD) (t : Fin cfg0.N) (h : ¬cond0_0 (grid0.coords t)) (y : S256x1536.Idx) : ∃ pc ∈ (runB m c t h).1, y ∈ pc.1.set :=
  View.cover_of_tiledL (runB m c t h).1 S256x1536.size (by sl_kernel_rfl) y

/-- What a later point leaves in result 0. -/
def outB_6 (c : Dev nD) (t : Fin cfg0.N) (h : ¬cond0_0 (grid0.coords t)) : Vec F S256x1536 .bf16 :=
  VO0_6.read (Elt F) (VO0_6.writes (Elt F) VO0_6.junk (runB m c t h).1)

/-- What point `t` leaves in result 0. -/
def out_6 (c : Dev nD) (t : Fin cfg0.N) : Vec F S256x1536 .bf16 :=
  if h : cond0_0 (grid0.coords t) then outA_6 m c else outB_6 m c t h

/-- A later point's pieces for result 1 cover its buffer. -/
theorem coverB_7 (c : Dev nD) (t : Fin cfg0.N) (h : ¬cond0_0 (grid0.coords t)) (y : S1x1536.Idx) : ∃ pc ∈ (runB m c t h).2.1, y ∈ pc.1.set :=
  View.cover_of_tiledL (runB m c t h).2.1 S1x1536.size (by sl_kernel_rfl) y

/-- What a later point leaves in result 1. -/
def outB_7 (c : Dev nD) (t : Fin cfg0.N) (h : ¬cond0_0 (grid0.coords t)) : Vec F S1x1536 .f32 :=
  VO0_7.read (Elt F) (VO0_7.writes (Elt F) VO0_7.junk (runB m c t h).2.1)

/-- What point `t` leaves in result 1. -/
def out_7 (c : Dev nD) (t : Fin cfg0.N) : Vec F S1x1536 .f32 :=
  if h : cond0_0 (grid0.coords t) then outA_7 m c else outB_7 m c t h

/-- The loop's invariant: before the first point the scratch at some contents, afterwards at what the first point left. -/
def PhiS (c : Dev nD) : ℕ → sProp 𝕄
  | 0 => Pipeline.ΦA spec0 c
  | _ + 1 => iprop(iprop(owns (c : Thread nD τ) scM0_0 fullShare (outA_s0 m c) ∗ owns (c : Thread nD τ) scM0_1 fullShare (outA_s1 m c) ∗ owns (c : Thread nD τ) scM0_2 fullShare (outA_s2 m c)) ∗ (∃ r, prngReg c r))

/-- After the first point the loop keeps the three scratch buffers at what the first point stored. -/
theorem PhiS_pos (c : Dev nD) (n : ℕ) (hz : n ≠ 0) :
    PhiS m c n = iprop(iprop(owns (c : Thread nD τ) scM0_0 fullShare (outA_s0 m c) ∗ owns (c : Thread nD τ) scM0_1 fullShare (outA_s1 m c) ∗ owns (c : Thread nD τ) scM0_2 fullShare (outA_s2 m c)) ∗ (∃ r, prngReg c r)) := by
  cases n with
  | zero => exact absurd rfl hz
  | succ n => rfl

/-! ## The loop's proof data -/

/-- The arrays as the loop finds them; after point `t` each input's buffer at its block, results 0 and 1 at what the
    point stored, results 2 and 3 at what the first point stored; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out_6 m c t
    | ⟨7, _⟩ => out_7 m c t
    | ⟨8, _⟩ => outA_8 m c
    | ⟨9, _⟩ => outA_9 m c
  Φ t := PhiS m c t.val
  q _ := fullShare
  owed _ := 0

/-- The array a window starts from is the array the host hands the kernel. -/
theorem A_eq (c : Dev nD) (w : Fin cfg0.W) : (dats m 0 c).A w = V m c (Pipeline.arrRef spec0 w) := by
  dsimp only [dats]

/-- After a point the buffer of operand 0 holds its block. -/
theorem after0_0 (c : Dev nD) (t : Fin cfg0.N) : (dats m 0 c).after 0 t = iblk m c 0 t := by dsimp only [dats]
/-- After a point the buffer of operand 1 holds its block. -/
theorem after0_1 (c : Dev nD) (t : Fin cfg0.N) : (dats m 0 c).after 1 t = iblk m c 1 t := by dsimp only [dats]
/-- After a point the buffer of operand 2 holds its block. -/
theorem after0_2 (c : Dev nD) (t : Fin cfg0.N) : (dats m 0 c).after 2 t = iblk m c 2 t := by dsimp only [dats]
/-- After a point the buffer of operand 3 holds its block. -/
theorem after0_3 (c : Dev nD) (t : Fin cfg0.N) : (dats m 0 c).after 3 t = iblk m c 3 t := by dsimp only [dats]
/-- After a point the buffer of operand 4 holds its block. -/
theorem after0_4 (c : Dev nD) (t : Fin cfg0.N) : (dats m 0 c).after 4 t = iblk m c 4 t := by dsimp only [dats]
/-- After a point the buffer of operand 5 holds its block. -/
theorem after0_5 (c : Dev nD) (t : Fin cfg0.N) : (dats m 0 c).after 5 t = iblk m c 5 t := by dsimp only [dats]
/-- After a point the buffer of result 0 holds what the point stored. -/
theorem after0_6 (c : Dev nD) (t : Fin cfg0.N) : (dats m 0 c).after 6 t = out_6 m c t := by dsimp only [dats]
/-- After a point the buffer of result 1 holds what the point stored. -/
theorem after0_7 (c : Dev nD) (t : Fin cfg0.N) : (dats m 0 c).after 7 t = out_7 m c t := by dsimp only [dats]
/-- After a point the buffer of result 2 holds what the first point stored. -/
theorem after0_8 (c : Dev nD) (t : Fin cfg0.N) : (dats m 0 c).after 8 t = outA_8 m c := by dsimp only [dats]
/-- After a point the buffer of result 3 holds what the first point stored. -/
theorem after0_9 (c : Dev nD) (t : Fin cfg0.N) : (dats m 0 c).after 9 t = outA_9 m c := by dsimp only [dats]
/-- Before a point the buffer of operand 0 holds its block. -/
theorem before0_0 (c : Dev nD) (t : Fin cfg0.N) (d) : (dats m 0 c).before 0 t d = iblk m c 0 t :=
  before0_0_of m (dats m 0 c) (A_eq m c 0) (after0_0 m c) t d
/-- Before a point the buffer of operand 1 holds its block. -/
theorem before0_1 (c : Dev nD) (t : Fin cfg0.N) (d) : (dats m 0 c).before 1 t d = iblk m c 1 t :=
  before0_1_of m (dats m 0 c) (A_eq m c 1) (after0_1 m c) t d
/-- Before a point the buffer of operand 2 holds its block. -/
theorem before0_2 (c : Dev nD) (t : Fin cfg0.N) (d) : (dats m 0 c).before 2 t d = iblk m c 2 t :=
  before0_2_of m (dats m 0 c) (A_eq m c 2) (after0_2 m c) t d
/-- Before a point the buffer of operand 3 holds its block. -/
theorem before0_3 (c : Dev nD) (t : Fin cfg0.N) (d) : (dats m 0 c).before 3 t d = iblk m c 3 t :=
  before0_3_of m (dats m 0 c) (A_eq m c 3) (after0_3 m c) t d
/-- Before a point the buffer of operand 4 holds its block. -/
theorem before0_4 (c : Dev nD) (t : Fin cfg0.N) (d) : (dats m 0 c).before 4 t d = iblk m c 4 t :=
  before0_4_of m (dats m 0 c) (A_eq m c 4) (after0_4 m c) t d
/-- Before a point the buffer of operand 5 holds its block. -/
theorem before0_5 (c : Dev nD) (t : Fin cfg0.N) (d) : (dats m 0 c).before 5 t d = iblk m c 5 t :=
  before0_5_of m (dats m 0 c) (A_eq m c 5) (after0_5 m c) t d

/-- Windows 0 to 7 are written or read at every point. -/
theorem live_out (t : Fin cfg0.N) : cfg0.idle 6 (grid0.coords t) = false ∧ cfg0.idle 7 (grid0.coords t) = false := ⟨rfl, rfl⟩

/-- Points off the first branch leave result 2 alone. -/
theorem idle0_8 (t : Fin cfg0.N) (h : ¬cond0_0 (grid0.coords t)) : cfg0.idle 8 (grid0.coords t) = true := by
  show (!(k0_cond1 (grid0.coords t) == 1#1)) = true
  rw [beq_false_of_ne h]; rfl
/-- The first branch uses result 2. -/
theorem live0_8 (t : Fin cfg0.N) (h : cond0_0 (grid0.coords t)) : cfg0.idle 8 (grid0.coords t) = false := by
  show (!(k0_cond1 (grid0.coords t) == 1#1)) = false
  rw [beq_iff_eq.mpr h]; rfl

/-- After the first point the buffer of result 2 holds what the first point stored: no later point touches it. -/
theorem before0_8 (c : Dev nD) : ∀ (n : ℕ) (hn : n + 1 < cfg0.N) (d), (dats m 0 c).before 8 ⟨n + 1, hn⟩ d = outA_8 m c := by
  have hN : cfg0.N = 18 := N_0
  intro n
  induction n with
  | zero =>
    intro hn d
    rw [(dats m 0 c).before_of_pos 8 ⟨1, hn⟩ Nat.one_ne_zero ((cfg0.win 8).fetch_out rfl _), if_neg]
    · unfold Dat.left
      rw [live0_8 _ ((hcond0_0 _).mpr rfl)]
      unfold Dat.kept
      rw [Pipeline.fill_of_clip_none 8 _ (fun _ => rfl) d ((dats m 0 c).after 8 _), Window.fill_cut]
      exact after0_8 m c _
    · intro h; have := (flush0_8 _).mp h; dsimp only at this; omega
  | succ n ih =>
    intro hn d
    rw [(dats m 0 c).before_of_pos 8 ⟨n + 1 + 1, hn⟩ (Nat.succ_ne_zero _) ((cfg0.win 8).fetch_out rfl _), if_neg]
    · unfold Dat.left
      rw [idle0_8 _ (fun h => by have := (hcond0_0 _).mp h; dsimp only at this; omega)]
      exact ih _ d
    · intro h; have := (flush0_8 _).mp h; dsimp only at this; omega

/-- At every point but the first the buffer of result 2 still holds what the first point stored. -/
theorem before0_8_pos (c : Dev nD) (t : Fin cfg0.N) (ht : t.val ≠ 0) (d) : (dats m 0 c).before 8 t d = outA_8 m c := by
  obtain ⟨n, hn⟩ := t
  cases n with
  | zero => exact absurd rfl ht
  | succ n => exact before0_8 m c n hn d

/-- A later point hands result 2's buffer back as it found it. -/
theorem leaves0_8 (c : Dev nD) (t : Fin cfg0.N) (ht : t.val ≠ 0) (h : ¬cond0_0 (grid0.coords t)) :
    owns (c : Thread nD τ) (ms0_8 t) fullShare (outA_8 m c) ⊢ ((dats m 0 c).leavesExact 8 t : sProp 𝕄) := by
  unfold Dat.leavesExact; rw [idle0_8 t h]
  cases (cfg0.win 8).flush t with
  | true => rw [after0_8]
  | false =>
    iintro H; iexists (outA_8 m c); rw [before0_8_pos m c t ht]; iexact H

/-- Points off the first branch leave result 3 alone. -/
theorem idle0_9 (t : Fin cfg0.N) (h : ¬cond0_0 (grid0.coords t)) : cfg0.idle 9 (grid0.coords t) = true := by
  show (!(k0_cond1 (grid0.coords t) == 1#1)) = true
  rw [beq_false_of_ne h]; rfl
/-- The first branch uses result 3. -/
theorem live0_9 (t : Fin cfg0.N) (h : cond0_0 (grid0.coords t)) : cfg0.idle 9 (grid0.coords t) = false := by
  show (!(k0_cond1 (grid0.coords t) == 1#1)) = false
  rw [beq_iff_eq.mpr h]; rfl

/-- After the first point the buffer of result 3 holds what the first point stored: no later point touches it. -/
theorem before0_9 (c : Dev nD) : ∀ (n : ℕ) (hn : n + 1 < cfg0.N) (d), (dats m 0 c).before 9 ⟨n + 1, hn⟩ d = outA_9 m c := by
  have hN : cfg0.N = 18 := N_0
  intro n
  induction n with
  | zero =>
    intro hn d
    rw [(dats m 0 c).before_of_pos 9 ⟨1, hn⟩ Nat.one_ne_zero ((cfg0.win 9).fetch_out rfl _), if_neg]
    · unfold Dat.left
      rw [live0_9 _ ((hcond0_0 _).mpr rfl)]
      unfold Dat.kept
      rw [Pipeline.fill_of_clip_none 9 _ (fun _ => rfl) d ((dats m 0 c).after 9 _), Window.fill_cut]
      exact after0_9 m c _
    · intro h; have := (flush0_9 _).mp h; dsimp only at this; omega
  | succ n ih =>
    intro hn d
    rw [(dats m 0 c).before_of_pos 9 ⟨n + 1 + 1, hn⟩ (Nat.succ_ne_zero _) ((cfg0.win 9).fetch_out rfl _), if_neg]
    · unfold Dat.left
      rw [idle0_9 _ (fun h => by have := (hcond0_0 _).mp h; dsimp only at this; omega)]
      exact ih _ d
    · intro h; have := (flush0_9 _).mp h; dsimp only at this; omega

/-- At every point but the first the buffer of result 3 still holds what the first point stored. -/
theorem before0_9_pos (c : Dev nD) (t : Fin cfg0.N) (ht : t.val ≠ 0) (d) : (dats m 0 c).before 9 t d = outA_9 m c := by
  obtain ⟨n, hn⟩ := t
  cases n with
  | zero => exact absurd rfl ht
  | succ n => exact before0_9 m c n hn d

/-- A later point hands result 3's buffer back as it found it. -/
theorem leaves0_9 (c : Dev nD) (t : Fin cfg0.N) (ht : t.val ≠ 0) (h : ¬cond0_0 (grid0.coords t)) :
    owns (c : Thread nD τ) (ms0_9 t) fullShare (outA_9 m c) ⊢ ((dats m 0 c).leavesExact 9 t : sProp 𝕄) := by
  unfold Dat.leavesExact; rw [idle0_9 t h]
  cases (cfg0.win 9).flush t with
  | true => rw [after0_9]
  | false =>
    iintro H; iexists (outA_9 m c); rw [before0_9_pos m c t ht]; iexact H

/-! ## The body, at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- A window that a point uses is left with the contents stated for after that point. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The first point's triple. -/
theorem sound_first (c : Dev nD) :
    bodyPre m c t0 ⊢ wp frame (wpE (defs₀ (F := F)) Variants.none c none) Set.univ (bodyAt0 t0) (fun _ => bodyPost m c t0) := by
  unfold bodyPre bodyPost bodyAt0
  simp only [before0_0, before0_1, before0_2, before0_3, before0_4, before0_5]
  rw [show (dats m 0 c).owesAt () t0.succ = (dats m 0 c).owesAt () t0.castSucc from rfl,
    leaves_live m c 0 t0 rfl, leaves_live m c 1 t0 rfl, leaves_live m c 2 t0 rfl, leaves_live m c 3 t0 rfl, leaves_live m c 4 t0 rfl, leaves_live m c 5 t0 rfl, leaves_live m c 6 t0 rfl, leaves_live m c 7 t0 rfl, after0_0, after0_1, after0_2, after0_3, after0_4, after0_5, after0_6, after0_7, leaves_live m c 8 t0 (live0_8 t0 first_t0), leaves_live m c 9 t0 (live0_9 t0 first_t0), after0_8, after0_9]
  rw [show (dats m 0 c).Φ t0.succ = PhiS m c 1 from rfl, PhiS_pos m c 1 (by decide),
    show (dats m 0 c).Φ t0.castSucc = Pipeline.ΦA spec0 c from rfl, PhiA0_eq]
  rw [show out_6 m c t0 = outA_6 m c from dif_pos first_t0, show out_7 m c t0 = outA_7 m c from dif_pos first_t0]
  unfold outA_6 outA_7 outA_8 outA_9 outA_s0 outA_s1 outA_s2
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA m c).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, ⟨%e6, H6⟩, ⟨%e7, H7⟩, ⟨%e8, H8⟩, ⟨%e9, H9⟩, ⟨%es0, HS0⟩, ⟨%es1, HS1⟩, ⟨%es2, HS2⟩⟩
  isplitl [HS0 HS1 HS2 Hg]
  · isplitl [HS0 HS1 HS2]
    · isplitl [HS0]
      · unfold owns; iexists _; isplitr; swap; iexact HS0; ipureintro; exact View.read_writes_of_cover _ _ _ _ _ (coverA_s0 m c)
      isplitl [HS1]
      · unfold owns; iexists _; isplitr; swap; iexact HS1; ipureintro; exact View.read_writes_of_cover _ _ _ _ _ (coverA_s1 m c)
      unfold owns; iexists _; isplitr; swap; iexact HS2; ipureintro; exact View.read_writes_of_cover _ _ _ _ _ (coverA_s2 m c)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_of_cover _ _ _ _ _ (coverA_6 m c)
  isplitl [H7]
  · unfold owns; iexists _; isplitr; swap; iexact H7; ipureintro; exact View.read_writes_of_cover _ _ _ _ _ (coverA_7 m c)
  isplitl [H8]
  · unfold owns; iexists _; isplitr; swap; iexact H8; ipureintro; exact View.read_writes_of_cover _ _ _ _ _ (coverA_8 m c)
  unfold owns; iexists _; isplitr; swap; iexact H9; ipureintro; exact View.read_writes_of_cover _ _ _ _ _ (coverA_9 m c)

/-- A later point's triple. -/
theorem sound_later (c : Dev nD) (t : Fin cfg0.N) (ht : t.val ≠ 0) (h0 : ¬cond0_0 (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_8_pos m c t ht, before0_9_pos m c t ht]
  rw [show (dats m 0 c).owesAt () t.succ = (dats m 0 c).owesAt () t.castSucc from rfl,
    leaves_live m c 0 t rfl, leaves_live m c 1 t rfl, leaves_live m c 2 t rfl, leaves_live m c 3 t rfl, leaves_live m c 4 t rfl, leaves_live m c 5 t rfl, leaves_live m c 6 t rfl, leaves_live m c 7 t rfl, after0_0, after0_1, after0_2, after0_3, after0_4, after0_5, after0_6, after0_7]
  rw [show (dats m 0 c).Φ t.succ = PhiS m c (t.val + 1) from rfl, PhiS_pos m c (t.val + 1) (Nat.succ_ne_zero _),
    show (dats m 0 c).Φ t.castSucc = PhiS m c t.val from rfl, PhiS_pos m c t.val ht]
  rw [show out_6 m c t = outB_6 m c t h0 from dif_neg h0, show out_7 m c t = outB_7 m c t h0 from dif_neg h0]
  unfold outB_6 outB_7
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB m c t h0).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [HS0]; · iexact HS0
  isplitl [HS1]; · iexact HS1
  isplitl [HS2]; · iexact HS2
  iintro ⟨H0, H1, H2, H3, H4, H5, ⟨%e6, H6⟩, ⟨%e7, H7⟩, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_of_cover _ _ _ _ _ (coverB_6 m c t h0)
  isplitl [H7]
  · unfold owns; iexists _; isplitr; swap; iexact H7; ipureintro; exact View.read_writes_of_cover _ _ _ _ _ (coverB_7 m c t h0)
  isplitl [H8]
  · iapply (leaves0_8 m c t ht h0); iexact H8
  iapply (leaves0_9 m c t ht h0); iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 18 := lt_of_lt_of_eq t.isLt (show cfg0.N = 18 from N_0)
  by_cases ht : t.val = 0
  · obtain rfl : t = t0 := Fin.ext ht
    exact sound_first m c
  · exact sound_later m c t ht fun h => ht (by have := (hcond0_0 t).mp h; omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 18 := N_0; omega)

/-! ## The run and the frame -/

set_option backward.isDefEq.respectTransparency.types false in
/-- The whole program's run: every execution terminates, with the loop's arrays at what the proof data computes and every
    semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every execution terminates, the argument arrays end unchanged, every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.KI.Runs.lean ====
/- What the runs of the kernel body are stated over: when the body's branch is taken, which windows
   are written at every point, the staging and scratch buffers by name. -/
module

public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 18 = 0 :=
  (fun t => by
    have ht : t.val < 18 := Nat.lt_of_lt_of_eq t.isLt N_0
    have e0 : (grid0.coords t 0).val = t.val / 1 % 18 := Pipeline.Grid.coords_val t 0 (by decide) rfl
    simp only [cond0_0, k0_cond1, e0]
    word_cmp
   : ∀ t : Fin grid0.N, cond0_0 (grid0.coords t) ↔ t.val % 18 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x1152 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1152x1536 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1152 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1536 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1536 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1152 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S256x224 .bf16 := Memref.whole cc0_scratch0
abbrev scM0_1 : Memref sig .tc .vmem S16x224 .bf16 := Memref.whole cc0_scratch1
abbrev scM0_2 : Memref sig .tc .vmem S256x128 .f32 := Memref.whole cc0_scratch2

/-- The loop's invariant before the first point: each scratch buffer at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KI.RunA.lean ====
/- The run of the kernel body at the first grid point, where the prologue is taken. -/
module

public import proofs.«01_k».proof.Proof.KI.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2636000 in
/-- The body at the first point (the branch taken), on whole buffers: from the inputs' contents it runs to
    the same inputs, and to each output and scratch buffer at the pieces the run stores in it. -/
noncomputable def kernelRun0_A (c : Dev nD) (i : grid0.Coords) (arg1 : Memref sig .tc .vmem S256x1152 .bf16) (harg1 : arg1.IsWhole) (arg2 : Memref sig .tc .vmem S1152x1536 .fp8e4m3) (harg2 : arg2.IsWhole) (arg3 : Memref sig .tc .vmem S1x1536 .f32) (harg3 : arg3.IsWhole) (arg4 : Memref sig .tc .vmem S16x1152 .bf16) (harg4 : arg4.IsWhole) (arg5 : Memref sig .tc .vmem S16x1536 .bf16) (harg5 : arg5.IsWhole) (arg6 : Memref sig .tc .vmem S1x1536 .f32) (harg6 : arg6.IsWhole) (arg7 : Memref sig .tc .vmem S256x1536 .bf16) (harg7 : arg7.IsWhole) (arg8 : Memref sig .tc .vmem S1x1536 .f32) (harg8 : arg8.IsWhole) (arg9 : Memref sig .tc .vmem S256x1152 .fp8e4m3) (harg9 : arg9.IsWhole) (arg10 : Memref sig .tc .vmem S1x256 .f32) (harg10 : arg10.IsWhole) (arg11 : Memref sig .tc .vmem S256x224 .bf16) (harg11 : arg11.IsWhole) (arg12 : Memref sig .tc .vmem S16x224 .bf16) (harg12 : arg12.IsWhole) (arg13 : Memref sig .tc .vmem S256x128 .f32) (harg13 : arg13.IsWhole) (hc0 : cond0_0 i)
    (x0 : Vec F S256x1152 .bf16) (x1 : Vec F S1152x1536 .fp8e4m3) (x2 : Vec F S1x1536 .f32) (x3 : Vec F S16x1152 .bf16) (x4 : Vec F S16x1536 .bf16) (x5 : Vec F S1x1536 .f32) :
    Σ' (L6 : List (View.Piece (Elt F) S256x1536 .bf16)), Σ' (L7 : List (View.Piece (Elt F) S1x1536 .f32)), Σ' (L8 : List (View.Piece (Elt F) S256x1152 .fp8e4m3)), Σ' (L9 : List (View.Piece (Elt F) S1x256 .f32)), Σ' (LS0 : List (View.Piece (Elt F) S256x224 .bf16)), Σ' (LS1 : List (View.Piece (Elt F) S16x224 .bf16)), { LS2 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0_dora_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0_dora_fp8_eq_skeleton]; unfold cc0_dora_fp8_skel
    simp only [k0_part92_eq_skeleton, k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    iexists _; iexact HS2

end Cert.KernelIdeal.Gen

end
-- ==== Proof.KI.RunB.lean ====
/- The run of the kernel body at a later grid point, where the prologue is not taken. -/
module

public import proofs.«01_k».proof.Proof.KI.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2548000 in
/-- The body at a later point (the branch not taken), on whole buffers: it stores results 0 and 1 and leaves
    the inputs, results 2 and 3 and the scratch as it found them. -/
noncomputable def kernelRun0_B (c : Dev nD) (i : grid0.Coords) (arg1 : Memref sig .tc .vmem S256x1152 .bf16) (harg1 : arg1.IsWhole) (arg2 : Memref sig .tc .vmem S1152x1536 .fp8e4m3) (harg2 : arg2.IsWhole) (arg3 : Memref sig .tc .vmem S1x1536 .f32) (harg3 : arg3.IsWhole) (arg4 : Memref sig .tc .vmem S16x1152 .bf16) (harg4 : arg4.IsWhole) (arg5 : Memref sig .tc .vmem S16x1536 .bf16) (harg5 : arg5.IsWhole) (arg6 : Memref sig .tc .vmem S1x1536 .f32) (harg6 : arg6.IsWhole) (arg7 : Memref sig .tc .vmem S256x1536 .bf16) (harg7 : arg7.IsWhole) (arg8 : Memref sig .tc .vmem S1x1536 .f32) (harg8 : arg8.IsWhole) (arg9 : Memref sig .tc .vmem S256x1152 .fp8e4m3) (harg9 : arg9.IsWhole) (arg10 : Memref sig .tc .vmem S1x256 .f32) (harg10 : arg10.IsWhole) (arg11 : Memref sig .tc .vmem S256x224 .bf16) (harg11 : arg11.IsWhole) (arg12 : Memref sig .tc .vmem S16x224 .bf16) (harg12 : arg12.IsWhole) (arg13 : Memref sig .tc .vmem S256x128 .f32) (harg13 : arg13.IsWhole) (hc0 : ¬cond0_0 i)
    (x0 : Vec F S256x1152 .bf16) (x1 : Vec F S1152x1536 .fp8e4m3) (x2 : Vec F S1x1536 .f32) (x3 : Vec F S16x1152 .bf16) (x4 : Vec F S16x1536 .bf16) (x5 : Vec F S1x1536 .f32) (xo8 : Vec F S256x1152 .fp8e4m3) (xo9 : Vec F S1x256 .f32) (xs0 : Vec F S256x224 .bf16) (xs1 : Vec F S16x224 .bf16) (xs2 : Vec F S256x128 .f32) :
    Σ' (L6 : List (View.Piece (Elt F) S256x1536 .bf16)), { L7 : List (View.Piece (Elt F) S1x1536 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xo8 ∗ owns (c : Thread nD τ) arg10 fullShare xo9 ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xo8 ∗ owns (c : Thread nD τ) arg10 fullShare xo9 ∗ owns (c : Thread nD τ) arg11 fullShare xs0 ∗ owns (c : Thread nD τ) arg12 fullShare xs1 ∗ owns (c : Thread nD τ) arg13 fullShare xs2) -∗ K ⟨⟩))
          ⊢ wp frame (wpE (defs₀ (F := F)) Variants.none c none) E (cc0_dora_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_dora_fp8_eq_skeleton]; unfold cc0_dora_fp8_skel
    simp only [k0_part92_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9; obtain rfl := harg11.eq_unread hfs0; obtain rfl := harg12.eq_unread hfs1; obtain rfl := harg13.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]
    · iexists _; isplitr; · ipureintro; exact harg11.read_unread _
      iexact HS0
    isplitl [HS1]
    · iexists _; isplitr; · ipureintro; exact harg12.read_unread _
      iexact HS1
    iexists _; isplitr; · ipureintro; exact harg13.read_unread _
    iexact HS2

end Cert.KernelIdeal.Gen

end
-- ==== Proof.KI.Frame.lean ====
/- The loop of the kernel: what each grid point leaves in its buffers, the body at every point, the run of the
   whole program and the frame claim. -/
module

public import proofs.«01_k».proof.Proof.KI.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the buffers -/

/-- One whole buffer of each output and scratch type, to read contents off the stored pieces. -/
abbrev VO0_6 : View sig .tc .vmem S256x1536 .bf16 := (Memref.whole cc0_stg6_0 : Memref sig .tc .vmem S256x1536 .bf16).view
abbrev VO0_7 : View sig .tc .vmem S1x1536 .f32 := (Memref.whole cc0_stg7_0 : Memref sig .tc .vmem S1x1536 .f32).view
abbrev VO0_8 : View sig .tc .vmem S256x1152 .fp8e4m3 := (Memref.whole cc0_stg8_0 : Memref sig .tc .vmem S256x1152 .fp8e4m3).view
abbrev VO0_9 : View sig .tc .vmem S1x256 .f32 := (Memref.whole cc0_stg9_0 : Memref sig .tc .vmem S1x256 .f32).view
abbrev VS0_0 : View sig .tc .vmem S256x224 .bf16 := scM0_0.view
abbrev VS0_1 : View sig .tc .vmem S16x224 .bf16 := scM0_1.view
abbrev VS0_2 : View sig .tc .vmem S256x128 .f32 := scM0_2.view

/-- The first grid point. -/
abbrev t0 : Fin cfg0.N := ⟨0, by rw [show cfg0.N = 18 from N_0]; decide⟩

/-- At the first grid point the body takes the branch that quantises. -/
theorem first_t0 : cond0_0 (grid0.coords t0) := (hcond0_0 t0).mpr rfl

/-- The first point's run, on the buffers the loop hands it. -/
abbrev runA (c : Dev nD) :=
  kernelRun0_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) scM0_0 (Memref.isWhole_whole _) scM0_1 (Memref.isWhole_whole _) scM0_2 (Memref.isWhole_whole _) first_t0 (iblk m c 0 t0) (iblk m c 1 t0) (iblk m c 2 t0) (iblk m c 3 t0) (iblk m c 4 t0) (iblk m c 5 t0)

/-- The first point's pieces for result 0 cover its buffer. -/
theorem coverA_6 (c : Dev nD) (y : S256x1536.Idx) : ∃ pc ∈ (runA m c).1, y ∈ pc.1.set :=
  View.cover_of_tiledL (runA m c).1 S256x1536.size (by sl_kernel_rfl) y

/-- What the first point leaves in result 0. -/
def outA_6 (c : Dev nD) : Vec F S256x1536 .bf16 :=
  VO0_6.read (Elt F) (VO0_6.writes (Elt F) VO0_6.junk (runA m c).1)

/-- The first point's pieces for result 1 cover its buffer. -/
theorem coverA_7 (c : Dev nD) (y : S1x1536.Idx) : ∃ pc ∈ (runA m c).2.1, y ∈ pc.1.set :=
  View.cover_of_tiledL (runA m c).2.1 S1x1536.size (by sl_kernel_rfl) y

/-- What the first point leaves in result 1. -/
def outA_7 (c : Dev nD) : Vec F S1x1536 .f32 :=
  VO0_7.read (Elt F) (VO0_7.writes (Elt F) VO0_7.junk (runA m c).2.1)

/-- The first point's pieces for result 2 cover its buffer. -/
theorem coverA_8 (c : Dev nD) (y : S256x1152.Idx) : ∃ pc ∈ (runA m c).2.2.1, y ∈ pc.1.set :=
  View.cover_of_tiledL (runA m c).2.2.1 S256x1152.size (by sl_kernel_rfl) y

/-- What the first point leaves in result 2. -/
def outA_8 (c : Dev nD) : Vec F S256x1152 .fp8e4m3 :=
  VO0_8.read (Elt F) (VO0_8.writes (Elt F) VO0_8.junk (runA m c).2.2.1)

/-- The first point's pieces for result 3 cover its buffer. -/
theorem coverA_9 (c : Dev nD) (y : S1x256.Idx) : ∃ pc ∈ (runA m c).2.2.2.1, y ∈ pc.1.set :=
  View.cover_of_tiledL (runA m c).2.2.2.1 S1x256.size (by sl_kernel_rfl) y

/-- What the first point leaves in result 3. -/
def outA_9 (c : Dev nD) : Vec F S1x256 .f32 :=
  VO0_9.read (Elt F) (VO0_9.writes (Elt F) VO0_9.junk (runA m c).2.2.2.1)

/-- The first point's pieces for scratch buffer 0 cover its buffer. -/
theorem coverA_s0 (c : Dev nD) (y : S256x224.Idx) : ∃ pc ∈ (runA m c).2.2.2.2.1, y ∈ pc.1.set :=
  View.cover_of_tiledL (runA m c).2.2.2.2.1 S256x224.size (by sl_kernel_rfl) y

/-- What the first point leaves in scratch buffer 0. -/
def outA_s0 (c : Dev nD) : Vec F S256x224 .bf16 :=
  VS0_0.read (Elt F) (VS0_0.writes (Elt F) VS0_0.junk (runA m c).2.2.2.2.1)

/-- The first point's pieces for scratch buffer 1 cover its buffer. -/
theorem coverA_s1 (c : Dev nD) (y : S16x224.Idx) : ∃ pc ∈ (runA m c).2.2.2.2.2.1, y ∈ pc.1.set :=
  View.cover_of_tiledL (runA m c).2.2.2.2.2.1 S16x224.size (by sl_kernel_rfl) y

/-- What the first point leaves in scratch buffer 1. -/
def outA_s1 (c : Dev nD) : Vec F S16x224 .bf16 :=
  VS0_1.read (Elt F) (VS0_1.writes (Elt F) VS0_1.junk (runA m c).2.2.2.2.2.1)

/-- The first point's pieces for scratch buffer 2 cover its buffer. -/
theorem coverA_s2 (c : Dev nD) (y : S256x128.Idx) : ∃ pc ∈ (runA m c).2.2.2.2.2.2.1, y ∈ pc.1.set :=
  View.cover_of_tiledL (runA m c).2.2.2.2.2.2.1 S256x128.size (by sl_kernel_rfl) y

/-- What the first point leaves in scratch buffer 2. -/
def outA_s2 (c : Dev nD) : Vec F S256x128 .f32 :=
  VS0_2.read (Elt F) (VS0_2.writes (Elt F) VS0_2.junk (runA m c).2.2.2.2.2.2.1)

/-- A later point's run, on the buffers the loop hands it: results 2 and 3 and the scratch at what the first point left. -/
abbrev runB (c : Dev nD) (t : Fin cfg0.N) (h : ¬cond0_0 (grid0.coords t)) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) h (iblk m c 0 t) (iblk m c 1 t) (iblk m c 2 t) (iblk m c 3 t) (iblk m c 4 t) (iblk m c 5 t) (outA_8 m c) (outA_9 m c) (outA_s0 m c) (outA_s1 m c) (outA_s2 m c)

/-- A later point's pieces for result 0 cover its buffer. -/
theorem coverB_6 (c : Dev nD) (t : Fin cfg0.N) (h : ¬cond0_0 (grid0.coords t)) (y : S256x1536.Idx) : ∃ pc ∈ (runB m c t h).1, y ∈ pc.1.set :=
  View.cover_of_tiledL (runB m c t h).1 S256x1536.size (by sl_kernel_rfl) y

/-- What a later point leaves in result 0. -/
def outB_6 (c : Dev nD) (t : Fin cfg0.N) (h : ¬cond0_0 (grid0.coords t)) : Vec F S256x1536 .bf16 :=
  VO0_6.read (Elt F) (VO0_6.writes (Elt F) VO0_6.junk (runB m c t h).1)

/-- What point `t` leaves in result 0. -/
def out_6 (c : Dev nD) (t : Fin cfg0.N) : Vec F S256x1536 .bf16 :=
  if h : cond0_0 (grid0.coords t) then outA_6 m c else outB_6 m c t h

/-- A later point's pieces for result 1 cover its buffer. -/
theorem coverB_7 (c : Dev nD) (t : Fin cfg0.N) (h : ¬cond0_0 (grid0.coords t)) (y : S1x1536.Idx) : ∃ pc ∈ (runB m c t h).2.1, y ∈ pc.1.set :=
  View.cover_of_tiledL (runB m c t h).2.1 S1x1536.size (by sl_kernel_rfl) y

/-- What a later point leaves in result 1. -/
def outB_7 (c : Dev nD) (t : Fin cfg0.N) (h : ¬cond0_0 (grid0.coords t)) : Vec F S1x1536 .f32 :=
  VO0_7.read (Elt F) (VO0_7.writes (Elt F) VO0_7.junk (runB m c t h).2.1)

/-- What point `t` leaves in result 1. -/
def out_7 (c : Dev nD) (t : Fin cfg0.N) : Vec F S1x1536 .f32 :=
  if h : cond0_0 (grid0.coords t) then outA_7 m c else outB_7 m c t h

/-- The loop's invariant: before the first point the scratch at some contents, afterwards at what the first point left. -/
def PhiS (c : Dev nD) : ℕ → sProp 𝕄
  | 0 => Pipeline.ΦA spec0 c
  | _ + 1 => iprop(iprop(owns (c : Thread nD τ) scM0_0 fullShare (outA_s0 m c) ∗ owns (c : Thread nD τ) scM0_1 fullShare (outA_s1 m c) ∗ owns (c : Thread nD τ) scM0_2 fullShare (outA_s2 m c)) ∗ (∃ r, prngReg c r))

/-- After the first point the loop keeps the three scratch buffers at what the first point stored. -/
theorem PhiS_pos (c : Dev nD) (n : ℕ) (hz : n ≠ 0) :
    PhiS m c n = iprop(iprop(owns (c : Thread nD τ) scM0_0 fullShare (outA_s0 m c) ∗ owns (c : Thread nD τ) scM0_1 fullShare (outA_s1 m c) ∗ owns (c : Thread nD τ) scM0_2 fullShare (outA_s2 m c)) ∗ (∃ r, prngReg c r)) := by
  cases n with
  | zero => exact absurd rfl hz
  | succ n => rfl

/-! ## The loop's proof data -/

/-- The arrays as the loop finds them; after point `t` each input's buffer at its block, results 0 and 1 at what the
    point stored, results 2 and 3 at what the first point stored; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out_6 m c t
    | ⟨7, _⟩ => out_7 m c t
    | ⟨8, _⟩ => outA_8 m c
    | ⟨9, _⟩ => outA_9 m c
  Φ t := PhiS m c t.val
  q _ := fullShare
  owed _ := 0

/-- The array a window starts from is the array the host hands the kernel. -/
theorem A_eq (c : Dev nD) (w : Fin cfg0.W) : (dats m 0 c).A w = V m c (Pipeline.arrRef spec0 w) := by
  dsimp only [dats]

/-- After a point the buffer of operand 0 holds its block. -/
theorem after0_0 (c : Dev nD) (t : Fin cfg0.N) : (dats m 0 c).after 0 t = iblk m c 0 t := by dsimp only [dats]
/-- After a point the buffer of operand 1 holds its block. -/
theorem after0_1 (c : Dev nD) (t : Fin cfg0.N) : (dats m 0 c).after 1 t = iblk m c 1 t := by dsimp only [dats]
/-- After a point the buffer of operand 2 holds its block. -/
theorem after0_2 (c : Dev nD) (t : Fin cfg0.N) : (dats m 0 c).after 2 t = iblk m c 2 t := by dsimp only [dats]
/-- After a point the buffer of operand 3 holds its block. -/
theorem after0_3 (c : Dev nD) (t : Fin cfg0.N) : (dats m 0 c).after 3 t = iblk m c 3 t := by dsimp only [dats]
/-- After a point the buffer of operand 4 holds its block. -/
theorem after0_4 (c : Dev nD) (t : Fin cfg0.N) : (dats m 0 c).after 4 t = iblk m c 4 t := by dsimp only [dats]
/-- After a point the buffer of operand 5 holds its block. -/
theorem after0_5 (c : Dev nD) (t : Fin cfg0.N) : (dats m 0 c).after 5 t = iblk m c 5 t := by dsimp only [dats]
/-- After a point the buffer of result 0 holds what the point stored. -/
theorem after0_6 (c : Dev nD) (t : Fin cfg0.N) : (dats m 0 c).after 6 t = out_6 m c t := by dsimp only [dats]
/-- After a point the buffer of result 1 holds what the point stored. -/
theorem after0_7 (c : Dev nD) (t : Fin cfg0.N) : (dats m 0 c).after 7 t = out_7 m c t := by dsimp only [dats]
/-- After a point the buffer of result 2 holds what the first point stored. -/
theorem after0_8 (c : Dev nD) (t : Fin cfg0.N) : (dats m 0 c).after 8 t = outA_8 m c := by dsimp only [dats]
/-- After a point the buffer of result 3 holds what the first point stored. -/
theorem after0_9 (c : Dev nD) (t : Fin cfg0.N) : (dats m 0 c).after 9 t = outA_9 m c := by dsimp only [dats]
/-- Before a point the buffer of operand 0 holds its block. -/
theorem before0_0 (c : Dev nD) (t : Fin cfg0.N) (d) : (dats m 0 c).before 0 t d = iblk m c 0 t :=
  before0_0_of m (dats m 0 c) (A_eq m c 0) (after0_0 m c) t d
/-- Before a point the buffer of operand 1 holds its block. -/
theorem before0_1 (c : Dev nD) (t : Fin cfg0.N) (d) : (dats m 0 c).before 1 t d = iblk m c 1 t :=
  before0_1_of m (dats m 0 c) (A_eq m c 1) (after0_1 m c) t d
/-- Before a point the buffer of operand 2 holds its block. -/
theorem before0_2 (c : Dev nD) (t : Fin cfg0.N) (d) : (dats m 0 c).before 2 t d = iblk m c 2 t :=
  before0_2_of m (dats m 0 c) (A_eq m c 2) (after0_2 m c) t d
/-- Before a point the buffer of operand 3 holds its block. -/
theorem before0_3 (c : Dev nD) (t : Fin cfg0.N) (d) : (dats m 0 c).before 3 t d = iblk m c 3 t :=
  before0_3_of m (dats m 0 c) (A_eq m c 3) (after0_3 m c) t d
/-- Before a point the buffer of operand 4 holds its block. -/
theorem before0_4 (c : Dev nD) (t : Fin cfg0.N) (d) : (dats m 0 c).before 4 t d = iblk m c 4 t :=
  before0_4_of m (dats m 0 c) (A_eq m c 4) (after0_4 m c) t d
/-- Before a point the buffer of operand 5 holds its block. -/
theorem before0_5 (c : Dev nD) (t : Fin cfg0.N) (d) : (dats m 0 c).before 5 t d = iblk m c 5 t :=
  before0_5_of m (dats m 0 c) (A_eq m c 5) (after0_5 m c) t d

/-- Windows 0 to 7 are written or read at every point. -/
theorem live_out (t : Fin cfg0.N) : cfg0.idle 6 (grid0.coords t) = false ∧ cfg0.idle 7 (grid0.coords t) = false := ⟨rfl, rfl⟩

/-- Points off the first branch leave result 2 alone. -/
theorem idle0_8 (t : Fin cfg0.N) (h : ¬cond0_0 (grid0.coords t)) : cfg0.idle 8 (grid0.coords t) = true := by
  show (!(k0_cond1 (grid0.coords t) == 1#1)) = true
  rw [beq_false_of_ne h]; rfl
/-- The first branch uses result 2. -/
theorem live0_8 (t : Fin cfg0.N) (h : cond0_0 (grid0.coords t)) : cfg0.idle 8 (grid0.coords t) = false := by
  show (!(k0_cond1 (grid0.coords t) == 1#1)) = false
  rw [beq_iff_eq.mpr h]; rfl

/-- After the first point the buffer of result 2 holds what the first point stored: no later point touches it. -/
theorem before0_8 (c : Dev nD) : ∀ (n : ℕ) (hn : n + 1 < cfg0.N) (d), (dats m 0 c).before 8 ⟨n + 1, hn⟩ d = outA_8 m c := by
  have hN : cfg0.N = 18 := N_0
  intro n
  induction n with
  | zero =>
    intro hn d
    rw [(dats m 0 c).before_of_pos 8 ⟨1, hn⟩ Nat.one_ne_zero ((cfg0.win 8).fetch_out rfl _), if_neg]
    · unfold Dat.left
      rw [live0_8 _ ((hcond0_0 _).mpr rfl)]
      unfold Dat.kept
      rw [Pipeline.fill_of_clip_none 8 _ (fun _ => rfl) d ((dats m 0 c).after 8 _), Window.fill_cut]
      exact after0_8 m c _
    · intro h; have := (flush0_8 _).mp h; dsimp only at this; omega
  | succ n ih =>
    intro hn d
    rw [(dats m 0 c).before_of_pos 8 ⟨n + 1 + 1, hn⟩ (Nat.succ_ne_zero _) ((cfg0.win 8).fetch_out rfl _), if_neg]
    · unfold Dat.left
      rw [idle0_8 _ (fun h => by have := (hcond0_0 _).mp h; dsimp only at this; omega)]
      exact ih _ d
    · intro h; have := (flush0_8 _).mp h; dsimp only at this; omega

/-- At every point but the first the buffer of result 2 still holds what the first point stored. -/
theorem before0_8_pos (c : Dev nD) (t : Fin cfg0.N) (ht : t.val ≠ 0) (d) : (dats m 0 c).before 8 t d = outA_8 m c := by
  obtain ⟨n, hn⟩ := t
  cases n with
  | zero => exact absurd rfl ht
  | succ n => exact before0_8 m c n hn d

/-- A later point hands result 2's buffer back as it found it. -/
theorem leaves0_8 (c : Dev nD) (t : Fin cfg0.N) (ht : t.val ≠ 0) (h : ¬cond0_0 (grid0.coords t)) :
    owns (c : Thread nD τ) (ms0_8 t) fullShare (outA_8 m c) ⊢ ((dats m 0 c).leavesExact 8 t : sProp 𝕄) := by
  unfold Dat.leavesExact; rw [idle0_8 t h]
  cases (cfg0.win 8).flush t with
  | true => rw [after0_8]
  | false =>
    iintro H; iexists (outA_8 m c); rw [before0_8_pos m c t ht]; iexact H

/-- Points off the first branch leave result 3 alone. -/
theorem idle0_9 (t : Fin cfg0.N) (h : ¬cond0_0 (grid0.coords t)) : cfg0.idle 9 (grid0.coords t) = true := by
  show (!(k0_cond1 (grid0.coords t) == 1#1)) = true
  rw [beq_false_of_ne h]; rfl
/-- The first branch uses result 3. -/
theorem live0_9 (t : Fin cfg0.N) (h : cond0_0 (grid0.coords t)) : cfg0.idle 9 (grid0.coords t) = false := by
  show (!(k0_cond1 (grid0.coords t) == 1#1)) = false
  rw [beq_iff_eq.mpr h]; rfl

/-- After the first point the buffer of result 3 holds what the first point stored: no later point touches it. -/
theorem before0_9 (c : Dev nD) : ∀ (n : ℕ) (hn : n + 1 < cfg0.N) (d), (dats m 0 c).before 9 ⟨n + 1, hn⟩ d = outA_9 m c := by
  have hN : cfg0.N = 18 := N_0
  intro n
  induction n with
  | zero =>
    intro hn d
    rw [(dats m 0 c).before_of_pos 9 ⟨1, hn⟩ Nat.one_ne_zero ((cfg0.win 9).fetch_out rfl _), if_neg]
    · unfold Dat.left
      rw [live0_9 _ ((hcond0_0 _).mpr rfl)]
      unfold Dat.kept
      rw [Pipeline.fill_of_clip_none 9 _ (fun _ => rfl) d ((dats m 0 c).after 9 _), Window.fill_cut]
      exact after0_9 m c _
    · intro h; have := (flush0_9 _).mp h; dsimp only at this; omega
  | succ n ih =>
    intro hn d
    rw [(dats m 0 c).before_of_pos 9 ⟨n + 1 + 1, hn⟩ (Nat.succ_ne_zero _) ((cfg0.win 9).fetch_out rfl _), if_neg]
    · unfold Dat.left
      rw [idle0_9 _ (fun h => by have := (hcond0_0 _).mp h; dsimp only at this; omega)]
      exact ih _ d
    · intro h; have := (flush0_9 _).mp h; dsimp only at this; omega

/-- At every point but the first the buffer of result 3 still holds what the first point stored. -/
theorem before0_9_pos (c : Dev nD) (t : Fin cfg0.N) (ht : t.val ≠ 0) (d) : (dats m 0 c).before 9 t d = outA_9 m c := by
  obtain ⟨n, hn⟩ := t
  cases n with
  | zero => exact absurd rfl ht
  | succ n => exact before0_9 m c n hn d

/-- A later point hands result 3's buffer back as it found it. -/
theorem leaves0_9 (c : Dev nD) (t : Fin cfg0.N) (ht : t.val ≠ 0) (h : ¬cond0_0 (grid0.coords t)) :
    owns (c : Thread nD τ) (ms0_9 t) fullShare (outA_9 m c) ⊢ ((dats m 0 c).leavesExact 9 t : sProp 𝕄) := by
  unfold Dat.leavesExact; rw [idle0_9 t h]
  cases (cfg0.win 9).flush t with
  | true => rw [after0_9]
  | false =>
    iintro H; iexists (outA_9 m c); rw [before0_9_pos m c t ht]; iexact H

/-! ## The body, at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- A window that a point uses is left with the contents stated for after that point. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The first point's triple. -/
theorem sound_first (c : Dev nD) :
    bodyPre m c t0 ⊢ wp frame (wpE (defs₀ (F := F)) Variants.none c none) Set.univ (bodyAt0 t0) (fun _ => bodyPost m c t0) := by
  unfold bodyPre bodyPost bodyAt0
  simp only [before0_0, before0_1, before0_2, before0_3, before0_4, before0_5]
  rw [show (dats m 0 c).owesAt () t0.succ = (dats m 0 c).owesAt () t0.castSucc from rfl,
    leaves_live m c 0 t0 rfl, leaves_live m c 1 t0 rfl, leaves_live m c 2 t0 rfl, leaves_live m c 3 t0 rfl, leaves_live m c 4 t0 rfl, leaves_live m c 5 t0 rfl, leaves_live m c 6 t0 rfl, leaves_live m c 7 t0 rfl, after0_0, after0_1, after0_2, after0_3, after0_4, after0_5, after0_6, after0_7, leaves_live m c 8 t0 (live0_8 t0 first_t0), leaves_live m c 9 t0 (live0_9 t0 first_t0), after0_8, after0_9]
  rw [show (dats m 0 c).Φ t0.succ = PhiS m c 1 from rfl, PhiS_pos m c 1 (by decide),
    show (dats m 0 c).Φ t0.castSucc = Pipeline.ΦA spec0 c from rfl, PhiA0_eq]
  rw [show out_6 m c t0 = outA_6 m c from dif_pos first_t0, show out_7 m c t0 = outA_7 m c from dif_pos first_t0]
  unfold outA_6 outA_7 outA_8 outA_9 outA_s0 outA_s1 outA_s2
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA m c).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, ⟨%e6, H6⟩, ⟨%e7, H7⟩, ⟨%e8, H8⟩, ⟨%e9, H9⟩, ⟨%es0, HS0⟩, ⟨%es1, HS1⟩, ⟨%es2, HS2⟩⟩
  isplitl [HS0 HS1 HS2 Hg]
  · isplitl [HS0 HS1 HS2]
    · isplitl [HS0]
      · unfold owns; iexists _; isplitr; swap; iexact HS0; ipureintro; exact View.read_writes_of_cover _ _ _ _ _ (coverA_s0 m c)
      isplitl [HS1]
      · unfold owns; iexists _; isplitr; swap; iexact HS1; ipureintro; exact View.read_writes_of_cover _ _ _ _ _ (coverA_s1 m c)
      unfold owns; iexists _; isplitr; swap; iexact HS2; ipureintro; exact View.read_writes_of_cover _ _ _ _ _ (coverA_s2 m c)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_of_cover _ _ _ _ _ (coverA_6 m c)
  isplitl [H7]
  · unfold owns; iexists _; isplitr; swap; iexact H7; ipureintro; exact View.read_writes_of_cover _ _ _ _ _ (coverA_7 m c)
  isplitl [H8]
  · unfold owns; iexists _; isplitr; swap; iexact H8; ipureintro; exact View.read_writes_of_cover _ _ _ _ _ (coverA_8 m c)
  unfold owns; iexists _; isplitr; swap; iexact H9; ipureintro; exact View.read_writes_of_cover _ _ _ _ _ (coverA_9 m c)

/-- A later point's triple. -/
theorem sound_later (c : Dev nD) (t : Fin cfg0.N) (ht : t.val ≠ 0) (h0 : ¬cond0_0 (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_8_pos m c t ht, before0_9_pos m c t ht]
  rw [show (dats m 0 c).owesAt () t.succ = (dats m 0 c).owesAt () t.castSucc from rfl,
    leaves_live m c 0 t rfl, leaves_live m c 1 t rfl, leaves_live m c 2 t rfl, leaves_live m c 3 t rfl, leaves_live m c 4 t rfl, leaves_live m c 5 t rfl, leaves_live m c 6 t rfl, leaves_live m c 7 t rfl, after0_0, after0_1, after0_2, after0_3, after0_4, after0_5, after0_6, after0_7]
  rw [show (dats m 0 c).Φ t.succ = PhiS m c (t.val + 1) from rfl, PhiS_pos m c (t.val + 1) (Nat.succ_ne_zero _),
    show (dats m 0 c).Φ t.castSucc = PhiS m c t.val from rfl, PhiS_pos m c t.val ht]
  rw [show out_6 m c t = outB_6 m c t h0 from dif_neg h0, show out_7 m c t = outB_7 m c t h0 from dif_neg h0]
  unfold outB_6 outB_7
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB m c t h0).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [HS0]; · iexact HS0
  isplitl [HS1]; · iexact HS1
  isplitl [HS2]; · iexact HS2
  iintro ⟨H0, H1, H2, H3, H4, H5, ⟨%e6, H6⟩, ⟨%e7, H7⟩, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_of_cover _ _ _ _ _ (coverB_6 m c t h0)
  isplitl [H7]
  · unfold owns; iexists _; isplitr; swap; iexact H7; ipureintro; exact View.read_writes_of_cover _ _ _ _ _ (coverB_7 m c t h0)
  isplitl [H8]
  · iapply (leaves0_8 m c t ht h0); iexact H8
  iapply (leaves0_9 m c t ht h0); iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 18 := lt_of_lt_of_eq t.isLt (show cfg0.N = 18 from N_0)
  by_cases ht : t.val = 0
  · obtain rfl : t = t0 := Fin.ext ht
    exact sound_first m c
  · exact sound_later m c t ht fun h => ht (by have := (hcond0_0 t).mp h; omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 18 := N_0; omega)

/-! ## The run and the frame -/

set_option backward.isDefEq.respectTransparency.types false in
/-- The whole program's run: every execution terminates, with the loop's arrays at what the proof data computes and every
    semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every execution terminates, the argument arrays end unchanged, every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.KI.Chain.lean ====
/- The kernel's column sums of squares: twelve columns of 128 lanes, each adding up the squares of the codes 16 rows at a
   time. A running sum is named by its column and by how many rows it has taken in; adding the squares of the next 16
   rows gives the running sum of that many rows more. -/
module

public import proofs.«01_k».proof.Proof.KI.Frame
public import Idealize.ShloMosaic.Lib.Pointwise
public import Idealize.ShloMosaic.Lib.WholeRead

@[expose] public section

set_option maxRecDepth 16384

noncomputable section

namespace Cert.KernelIdeal.Gen

open Idealize.ShloMosaic Idealize.ShloMosaic.TcCoe

/-- Entry `(r, c)` of a block of codes, zero outside the block. -/
def entry (w : Vec Ideal S1152x1536 .fp8e4m3) (r c : ℕ) : EReal :=
  if h : r < 1152 ∧ c < 1536 then w (ix2 ⟨r, h.1⟩ ⟨c, h.2⟩) else 0

/-- The 32 rows from row `r` of the column of 128 lanes from lane `n`, as the kernel loads and widens them. -/
def rows32 (w : Vec Ideal S1152x1536 .fp8e4m3) (r n : ℕ) : FVec Ideal S32x128 .f32 :=
  fun i => entry w (r + (i 0).val) (n + (i 1).val)

/-- 16 rows from row `r` of the column from lane `n`. -/
def rows16 (w : Vec Ideal S1152x1536 .fp8e4m3) (r n : ℕ) : FVec Ideal S16x128 .f32 :=
  fun i => entry w (r + (i 0).val) (n + (i 1).val)

/-- The running sum of column `n` after the first `r` rows, 16 rows at a time. -/
def runSum (w : Vec Ideal S1152x1536 .fp8e4m3) (r n : ℕ) : FVec Ideal S16x128 .f32 :=
  fun i => ∑ k ∈ Finset.range (r / 16), entry w (16 * k + (i 0).val) (n + (i 1).val) * entry w (16 * k + (i 0).val) (n + (i 1).val)

/-- The whole sum of column `n`, one number per lane. -/
def fullSum (w : Vec Ideal S1152x1536 .fp8e4m3) (n : ℕ) : FVec Ideal S1x128 .f32 :=
  fun i => ∑ r ∈ Finset.range 1152, entry w r (n + (i 1).val) * entry w r (n + (i 1).val)

/-- A load of 32 rows, widened, is those rows. -/
theorem load32 (M : Memref sig .tc .vmem S1152x1536 .fp8e4m3) (hM : M.IsWhole) (w : Vec Ideal S1152x1536 .fp8e4m3)
    (r n : ℕ) (inb : ∀ a : Fin S1152x1536.rank, (![r, n] : Fin 2 → ℕ) a + (![32, 128] : Fin 2 → ℕ) a ≤ S1152x1536.size a) :
    extf .f32 (extf .bf16 (shapeCast S32x128
        (View.readAt (Elt Ideal) M.view (Rect.unit (s := S1152x1536) ![r, n] ![32, 128] inb).toLoadRect (hM.unread w))
        shapeCasts_S32x128_S32x128) bitsLt_fp8e4m3_bf16) bitsLt_bf16_f32 = rows32 w r n := by
  funext i
  have h0 : r + 32 ≤ 1152 := inb 0
  have h1 : n + 128 ≤ 1536 := inb 1
  idx_vars i
  pointwise
  rw [hM.readAt_unread]
  unfold rows32 entry
  have ha : r + i0.val < 1152 := by omega
  have hb : n + i1.val < 1536 := by omega
  rw [dif_pos ⟨ha, hb⟩]
  pointwise

/-- The first 16 rows of a block of 32 are the block of 16 at the same row. -/
theorem lowHalf (w : Vec Ideal S1152x1536 .fp8e4m3) (r n : ℕ) :
    extractStridedSlice S16x128 ![0, 0] (rows32 w r n) slices_S32x128_o0_0_S16x128 = rows16 w r n := by
  funext i; idx_vars i; pointwise [rows32, rows16]

/-- The last 16 rows of a block of 32 are the block of 16 that starts 16 rows on. -/
theorem highHalf (w : Vec Ideal S1152x1536 .fp8e4m3) (r n : ℕ) :
    extractStridedSlice S16x128 ![16, 0] (rows32 w r n) slices_S32x128_o16_0_S16x128 = rows16 w (r + 16) n := by
  funext i; idx_vars i; pointwise [rows32, rows16]
  congr 1; omega

/-- The squares of the first two groups of rows begin the running sum. -/
theorem sum_start (w : Vec Ideal S1152x1536 .fp8e4m3) (n : ℕ) :
    addf (mulf (rows16 w 0 n) (rows16 w 0 n)) (mulf (rows16 w 16 n) (rows16 w 16 n)) = runSum w 32 n := by
  funext i
  pointwise [rows16, runSum]
  rw [Finset.sum_range_succ, Finset.sum_range_one]
  simp

/-- The squares of the next 16 rows join the running sum. -/
theorem sum_step (w : Vec Ideal S1152x1536 .fp8e4m3) (r n : ℕ) (h : r % 16 = 0) :
    addf (runSum w r n) (mulf (rows16 w r n) (rows16 w r n)) = runSum w (r + 16) n := by
  funext i
  pointwise [rows16, runSum]
  rw [show (r + 16) / 16 = r / 16 + 1 by omega, Finset.sum_range_succ, show 16 * (r / 16) = r by omega]

/-- A sum taken 16 terms at a time is the sum. -/
theorem sum_rows16 (n : ℕ) (f : ℕ → EReal) :
    ∑ k ∈ Finset.range n, ∑ i : Fin 16, f (16 * k + i.val) = ∑ r ∈ Finset.range (16 * n), f r := by
  induction n with
  | zero => simp
  | succ n ih => rw [Finset.sum_range_succ, ih, Nat.mul_succ, Finset.sum_range_add, Finset.sum_range (fun x => f (16 * n + x))]

/-- After all the rows, the 16 partial sums of each lane are added. -/
theorem sum_end (w : Vec Ideal S1152x1536 .fp8e4m3) (n : ℕ) (hφ) (hacc) :
    shapeCast S1x128 (multiReduction .add [0] S128 (runSum w 1152 n) 0#32 reduces_S16x128_S128 hφ hacc)
      shapeCasts_S128_S1x128 = fullSum w n := by
  funext i; idx_vars i
  pointwise [runSum, fullSum]
  rw [Finset.sum_comm]
  exact sum_rows16 72 (fun r => entry w r (n + i1.val) * entry w r (n + i1.val))

end Cert.KernelIdeal.Gen

end
-- ==== Proof.KI.Columns.lean ====
/- The eleven columns of sums of squares that the kernel has finished when it forms the last one, and the pieces of the last. -/
module

public import proofs.«01_k».proof.Proof.KI.Chain

@[expose] public section

set_option maxRecDepth 65536
set_option pp.deepTerms false

noncomputable section

namespace Cert.KernelIdeal.Gen

open Idealize.ShloMosaic Idealize.ShloMosaic.TcCoe

set_option maxHeartbeats 4000000 in
/-- At a later point: the first eleven columns are whole sums, and of the last the sum lacks its last groups of rows. -/
theorem columns_B (c : Dev nD) (M : Memref sig .tc .vmem S1152x1536 .fp8e4m3) (hM : M.IsWhole)
    (w : Vec Ideal S1152x1536 .fp8e4m3) :
    kernelRun0_B.sl.r_19 c M hM w = fullSum w 0
    ∧ kernelRun0_B.sl.r_34 c M hM w = fullSum w 128
    ∧ kernelRun0_B.sl.r_42 c M hM w = fullSum w 256
    ∧ kernelRun0_B.sl.r_57 c M hM w = fullSum w 384
    ∧ kernelRun0_B.sl.r_81 c M hM w = fullSum w 512
    ∧ kernelRun0_B.sl.r_103 c M hM w = fullSum w 640
    ∧ kernelRun0_B.sl.r_118 c M hM w = fullSum w 768
    ∧ kernelRun0_B.sl.r_133 c M hM w = fullSum w 896
    ∧ kernelRun0_B.sl.r_142 c M hM w = fullSum w 1024
    ∧ kernelRun0_B.sl.r_157 c M hM w = fullSum w 1152
    ∧ kernelRun0_B.sl.r_179 c M hM w = fullSum w 1280
    ∧ kernelRun0_B.sl.r_198 c M hM w = runSum w 1024 1408
    ∧ kernelRun0_B.sl.r_199 c M hM w = rows32 w 1024 1408
    ∧ kernelRun0_B.sl.r_200 c M hM w = rows16 w 1024 1408 := by
  refine ⟨?_, ?_, ?_, ?_, ?_, ?_, ?_, ?_, ?_, ?_, ?_, ?_, ?_, ?_⟩ <;>
  simp only [k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53,
    k0_pay54, k0_pay55, k0_pay56, k0_pay57, k0_pay58, k0_pay59, k0_pay60, k0_pay61, k0_pay62, k0_pay63, k0_pay64,
    k0_pay65, k0_pay66, k0_pay67, k0_pay68, k0_pay69, k0_pay70, k0_pay71, k0_pay72, k0_pay73, k0_pay74, k0_pay75,
    k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106, k0_pay107,
    k0_pay108, k0_pay109, k0_pay110, k0_pay111, k0_pay112, k0_pay113, k0_pay114, k0_pay115, k0_pay116, k0_pay117,
    k0_pay118, k0_pay119, k0_pay120, k0_pay121, k0_pay122, k0_pay123, k0_pay124, k0_pay125, k0_pay126, k0_pay127,
    k0_pay128, k0_pay129, k0_pay130, k0_pay131, k0_pay132, k0_pay133, k0_pay134, k0_pay135, k0_pay136, k0_pay137,
    k0_pay138, k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156, k0_pay157,
    k0_pay158, k0_pay159, k0_pay160, k0_pay161, k0_pay162, k0_pay163, k0_pay164, k0_pay165, k0_pay166, k0_pay167,
    k0_pay168, k0_pay169, k0_pay170, k0_pay171, k0_pay172, k0_pay173, k0_pay174, k0_pay175, k0_pay176, k0_pay177,
    k0_pay178, k0_pay179, k0_pay180, k0_pay181, k0_pay182, k0_pay183, k0_pay184, k0_pay185, k0_pay186, k0_pay187,
    k0_pay188, k0_pay189, k0_pay190, k0_pay191, k0_pay192, k0_pay193, k0_pay194, k0_pay195, k0_pay196, k0_pay197,
    k0_pay198, k0_pay199, k0_pay200, k0_pay201, k0_pay202, k0_pay203, k0_pay204, k0_pay205, k0_pay206, k0_pay207,
    k0_pay208, k0_pay209, k0_pay210, k0_pay211, k0_pay212, k0_pay213, k0_pay214, k0_pay215, k0_pay216, k0_pay217,
    k0_pay218, k0_pay219, k0_pay220, k0_pay221, k0_pay222, k0_pay223, k0_pay224, k0_pay225, k0_pay226, k0_pay227,
    k0_pay228, k0_pay229, k0_pay230, k0_pay231, k0_pay232, k0_pay233, kernelRun0_B.sl.r_4, kernelRun0_B.sl.r_5,
    kernelRun0_B.sl.r_6, kernelRun0_B.sl.r_7, kernelRun0_B.sl.r_8, kernelRun0_B.sl.r_9, kernelRun0_B.sl.r_10,
    kernelRun0_B.sl.r_11, kernelRun0_B.sl.r_12, kernelRun0_B.sl.r_13, kernelRun0_B.sl.r_14, kernelRun0_B.sl.r_15,
    kernelRun0_B.sl.r_16, kernelRun0_B.sl.r_17, kernelRun0_B.sl.r_18, kernelRun0_B.sl.r_19, kernelRun0_B.sl.r_20,
    kernelRun0_B.sl.r_21, kernelRun0_B.sl.r_22, kernelRun0_B.sl.r_23, kernelRun0_B.sl.r_24, kernelRun0_B.sl.r_25,
    kernelRun0_B.sl.r_26, kernelRun0_B.sl.r_27, kernelRun0_B.sl.r_28, kernelRun0_B.sl.r_29, kernelRun0_B.sl.r_30,
    kernelRun0_B.sl.r_31, kernelRun0_B.sl.r_32, kernelRun0_B.sl.r_33, kernelRun0_B.sl.r_34, kernelRun0_B.sl.r_35,
    kernelRun0_B.sl.r_36, kernelRun0_B.sl.r_37, kernelRun0_B.sl.r_38, kernelRun0_B.sl.r_39, kernelRun0_B.sl.r_40,
    kernelRun0_B.sl.r_41, kernelRun0_B.sl.r_42, kernelRun0_B.sl.r_43, kernelRun0_B.sl.r_44, kernelRun0_B.sl.r_45,
    kernelRun0_B.sl.r_46, kernelRun0_B.sl.r_47, kernelRun0_B.sl.r_48, kernelRun0_B.sl.r_49, kernelRun0_B.sl.r_50,
    kernelRun0_B.sl.r_51, kernelRun0_B.sl.r_52, kernelRun0_B.sl.r_53, kernelRun0_B.sl.r_54, kernelRun0_B.sl.r_55,
    kernelRun0_B.sl.r_56, kernelRun0_B.sl.r_57, kernelRun0_B.sl.r_58, kernelRun0_B.sl.r_59, kernelRun0_B.sl.r_60,
    kernelRun0_B.sl.r_61, kernelRun0_B.sl.r_62, kernelRun0_B.sl.r_63, kernelRun0_B.sl.r_64, kernelRun0_B.sl.r_65,
    kernelRun0_B.sl.r_66, kernelRun0_B.sl.r_67, kernelRun0_B.sl.r_68, kernelRun0_B.sl.r_69, kernelRun0_B.sl.r_70,
    kernelRun0_B.sl.r_71, kernelRun0_B.sl.r_72, kernelRun0_B.sl.r_73, kernelRun0_B.sl.r_74, kernelRun0_B.sl.r_75,
    kernelRun0_B.sl.r_76, kernelRun0_B.sl.r_77, kernelRun0_B.sl.r_78, kernelRun0_B.sl.r_79, kernelRun0_B.sl.r_80,
    kernelRun0_B.sl.r_81, kernelRun0_B.sl.r_82, kernelRun0_B.sl.r_83, kernelRun0_B.sl.r_84, kernelRun0_B.sl.r_85,
    kernelRun0_B.sl.r_86, kernelRun0_B.sl.r_87, kernelRun0_B.sl.r_88, kernelRun0_B.sl.r_89, kernelRun0_B.sl.r_90,
    kernelRun0_B.sl.r_91, kernelRun0_B.sl.r_92, kernelRun0_B.sl.r_93, kernelRun0_B.sl.r_94, kernelRun0_B.sl.r_95,
    kernelRun0_B.sl.r_96, kernelRun0_B.sl.r_97, kernelRun0_B.sl.r_98, kernelRun0_B.sl.r_99, kernelRun0_B.sl.r_100,
    kernelRun0_B.sl.r_101, kernelRun0_B.sl.r_102, kernelRun0_B.sl.r_103, kernelRun0_B.sl.r_104,
    kernelRun0_B.sl.r_105, kernelRun0_B.sl.r_106, kernelRun0_B.sl.r_107, kernelRun0_B.sl.r_108,
    kernelRun0_B.sl.r_109, kernelRun0_B.sl.r_110, kernelRun0_B.sl.r_111, kernelRun0_B.sl.r_112,
    kernelRun0_B.sl.r_113, kernelRun0_B.sl.r_114, kernelRun0_B.sl.r_115, kernelRun0_B.sl.r_116,
    kernelRun0_B.sl.r_117, kernelRun0_B.sl.r_118, kernelRun0_B.sl.r_119, kernelRun0_B.sl.r_120,
    kernelRun0_B.sl.r_121, kernelRun0_B.sl.r_122, kernelRun0_B.sl.r_123, kernelRun0_B.sl.r_124,
    kernelRun0_B.sl.r_125, kernelRun0_B.sl.r_126, kernelRun0_B.sl.r_127, kernelRun0_B.sl.r_128,
    kernelRun0_B.sl.r_129, kernelRun0_B.sl.r_130, kernelRun0_B.sl.r_131, kernelRun0_B.sl.r_132,
    kernelRun0_B.sl.r_133, kernelRun0_B.sl.r_134, kernelRun0_B.sl.r_135, kernelRun0_B.sl.r_136,
    kernelRun0_B.sl.r_137, kernelRun0_B.sl.r_138, kernelRun0_B.sl.r_139, kernelRun0_B.sl.r_140,
    kernelRun0_B.sl.r_141, kernelRun0_B.sl.r_142, kernelRun0_B.sl.r_143, kernelRun0_B.sl.r_144,
    kernelRun0_B.sl.r_145, kernelRun0_B.sl.r_146, kernelRun0_B.sl.r_147, kernelRun0_B.sl.r_148,
    kernelRun0_B.sl.r_149, kernelRun0_B.sl.r_150, kernelRun0_B.sl.r_151, kernelRun0_B.sl.r_152,
    kernelRun0_B.sl.r_153, kernelRun0_B.sl.r_154, kernelRun0_B.sl.r_155, kernelRun0_B.sl.r_156,
    kernelRun0_B.sl.r_157, kernelRun0_B.sl.r_158, kernelRun0_B.sl.r_159, kernelRun0_B.sl.r_160,
    kernelRun0_B.sl.r_161, kernelRun0_B.sl.r_162, kernelRun0_B.sl.r_163, kernelRun0_B.sl.r_164,
    kernelRun0_B.sl.r_165, kernelRun0_B.sl.r_166, kernelRun0_B.sl.r_167, kernelRun0_B.sl.r_168,
    kernelRun0_B.sl.r_169, kernelRun0_B.sl.r_170, kernelRun0_B.sl.r_171, kernelRun0_B.sl.r_172,
    kernelRun0_B.sl.r_173, kernelRun0_B.sl.r_174, kernelRun0_B.sl.r_175, kernelRun0_B.sl.r_176,
    kernelRun0_B.sl.r_177, kernelRun0_B.sl.r_178, kernelRun0_B.sl.r_179, kernelRun0_B.sl.r_180,
    kernelRun0_B.sl.r_181, kernelRun0_B.sl.r_182, kernelRun0_B.sl.r_183, kernelRun0_B.sl.r_184,
    kernelRun0_B.sl.r_185, kernelRun0_B.sl.r_186, kernelRun0_B.sl.r_187, kernelRun0_B.sl.r_188,
    kernelRun0_B.sl.r_189, kernelRun0_B.sl.r_190, kernelRun0_B.sl.r_191, kernelRun0_B.sl.r_192,
    kernelRun0_B.sl.r_193, kernelRun0_B.sl.r_194, kernelRun0_B.sl.r_195, kernelRun0_B.sl.r_196,
    kernelRun0_B.sl.r_197, kernelRun0_B.sl.r_198, kernelRun0_B.sl.r_199, kernelRun0_B.sl.r_200, load32, lowHalf,
    highHalf, sum_start, sum_step, Nat.reduceAdd, Nat.reduceMod] <;>
  exact sum_end _ _ _ _

end Cert.KernelIdeal.Gen

end
-- ==== Proof.KI.Blocks.lean ====
/- What the kernel's buffers hold after a grid point, as values of the blocks it read. -/
module

public import proofs.«01_k».proof.Proof.KI.Columns
public import Idealize.ShloMosaic.Lib.Pipeline.ValueKit
public import Idealize.ShloMosaic.Lib.Pipeline.ReadBack

@[expose] public section

set_option maxRecDepth 65536
set_option pp.deepTerms false

noncomputable section

namespace Cert.KernelIdeal.Gen

open Idealize.ShloMosaic Idealize.ShloMosaic.TcCoe

/-- A load of what the stores before it left. -/
theorem readCov_eq_ld {sp : Space} {S : Shape} {e : EltTy} (v : View sig .tc sp S e)
    (L : List (View.Piece (Elt Ideal) S e)) (r : Rect S) : v.readCov L r.toLoadRect = View.ld (View.canon L) r :=
  View.readCov_eq_canon' v L r.toLoadRect

/-- The exponent of each row's scale. -/
def kExpo (x : Vec Ideal S256x1152 .bf16) : IVec S256x1 32 :=
  k0_pay8 (F := Ideal) (k0_pay4 x) (k0_pay5 x) (k0_pay6 x) k0_pay7

/-- The codes of `x`. -/
def kCodes (x : Vec Ideal S256x1152 .bf16) : FVec Ideal S256x1152 .fp8e4m3 := k0_pay10 (k0_pay3 x) (kExpo x)

/-- The scales of the rows of `x`, as the result holds them, -/
def kScale (x : Vec Ideal S256x1152 .bf16) : FVec Ideal S1x256 .f32 := k0_pay13 (kExpo x) 127#32

/-- and 128 copies of each, as the scratch holds them. -/
def kScaleWide (x : Vec Ideal S256x1152 .bf16) : FVec Ideal S256x128 .f32 := k0_pay12 (kExpo x) 127#32

/-- The left operand of the second product of `y`. -/
def kLeft (x : Vec Ideal S256x1152 .bf16) (a : Vec Ideal S16x1152 .bf16) : FVec Ideal S256x224 .bf16 :=
  k0_pay16 (k0_pay15 (k0_pay2 x) (k0_pay3 x) (kExpo x) a)

/-- The left operand of the second product of the norms. -/
def kLeftNorm (a : Vec Ideal S16x1152 .bf16) : FVec Ideal S16x224 .bf16 := k0_pay17 (k0_pay14 a)

/-- The column norms of one block. -/
def kNorm (w : Vec Ideal S1152x1536 .fp8e4m3) (s : Vec Ideal S1x1536 .f32) (a : Vec Ideal S16x1152 .bf16)
    (b : Vec Ideal S16x1536 .bf16) (l : Vec Ideal S16x224 .bf16) : FVec Ideal S1x1536 .f32 :=
  k0_pay234 (k0_pay18 s)
    (k0_pay21 s b (View.ld w (Rect.unit ![0, 0] ![1024, 1536] inb_S1152x1536_S1024x1536_0_0))
      (View.ld w (Rect.unit ![1024, 0] ![128, 1536] inb_S1152x1536_S128x1536_1024_0)) b
      (View.ld a (Rect.unit ![0, 0] ![16, 1024] inb_S16x1152_S16x1024_0_0)) l)
    (fullSum w 0) (fullSum w 128) (fullSum w 256) (fullSum w 384) (fullSum w 512) (fullSum w 640) (fullSum w 768)
    (fullSum w 896) (fullSum w 1024) (fullSum w 1152) (fullSum w 1280) (runSum w 1024 1408) (rows32 w 1024 1408)
    (rows16 w 1024 1408)
    (View.ld w (Rect.unit ![1056, 1408] ![32, 128] inb_S1152x1536_S32x128_1056_1408))
    (View.ld w (Rect.unit ![1088, 1408] ![32, 128] inb_S1152x1536_S32x128_1088_1408))
    (View.ld w (Rect.unit ![1120, 1408] ![32, 128] inb_S1152x1536_S32x128_1120_1408))

/-- One block of `y`. -/
def kOut (w : Vec Ideal S1152x1536 .fp8e4m3) (s : Vec Ideal S1x1536 .f32) (b : Vec Ideal S16x1536 .bf16)
    (g : Vec Ideal S1x1536 .f32) (n : FVec Ideal S1x1536 .f32) (q : Vec Ideal S256x1152 .fp8e4m3)
    (l : Vec Ideal S256x224 .bf16) (z : Vec Ideal S256x128 .f32) : FVec Ideal S256x1536 .bf16 :=
  k0_pay1 (k0_pay18 s) (k0_pay19 (View.ld w (Rect.unit ![0, 0] ![1024, 1536] inb_S1152x1536_S1024x1536_0_0)))
    (k0_pay20 s b (View.ld w (Rect.unit ![1024, 0] ![128, 1536] inb_S1152x1536_S128x1536_1024_0))) n g
    (View.ld q (Rect.unit ![0, 0] ![256, 1024] inb_S256x1152_S256x1024_0_0)) l z

/-- At the first point the columns are the same sums. -/
theorem columns_A (c : Dev nD) (M : Memref sig .tc .vmem S1152x1536 .fp8e4m3) (hM : M.IsWhole)
    (w : Vec Ideal S1152x1536 .fp8e4m3) :
    kernelRun0_A.sl.r_27 c M hM w = fullSum w 0
    ∧ kernelRun0_A.sl.r_42 c M hM w = fullSum w 128
    ∧ kernelRun0_A.sl.r_50 c M hM w = fullSum w 256
    ∧ kernelRun0_A.sl.r_65 c M hM w = fullSum w 384
    ∧ kernelRun0_A.sl.r_89 c M hM w = fullSum w 512
    ∧ kernelRun0_A.sl.r_111 c M hM w = fullSum w 640
    ∧ kernelRun0_A.sl.r_126 c M hM w = fullSum w 768
    ∧ kernelRun0_A.sl.r_141 c M hM w = fullSum w 896
    ∧ kernelRun0_A.sl.r_150 c M hM w = fullSum w 1024
    ∧ kernelRun0_A.sl.r_165 c M hM w = fullSum w 1152
    ∧ kernelRun0_A.sl.r_187 c M hM w = fullSum w 1280
    ∧ kernelRun0_A.sl.r_206 c M hM w = runSum w 1024 1408
    ∧ kernelRun0_A.sl.r_207 c M hM w = rows32 w 1024 1408
    ∧ kernelRun0_A.sl.r_208 c M hM w = rows16 w 1024 1408 := columns_B c M hM w

variable (m : (ℓ : Loc nD τ sig) → Buf (Elt Ideal) ℓ)

/-- After the first point result 2 holds the codes, -/
theorem outA_8_eq (c : Dev nD) : outA_8 m c = kCodes (iblk m c 0 t0) := by
  unfold outA_8
  rw [View.read_writes_junk_eq_canon]
  dsimp only [runA, kernelRun0_A]
  simp only [kernelRun0_A.sl.H8_1, kernelRun0_A.sl.r_1, kernelRun0_A.sl.r_2, kernelRun0_A.sl.r_3, kernelRun0_A.sl.r_4, kernelRun0_A.sl.r_5]
  simp (disch := decide) only [View.canon_cons_unit_lit, View.readAt_eq_ld, Memref.IsWhole.read_unread, read_unread_whole, View.ld_unit_lit, readCov_eq_ld]
  rfl

/-- result 3 the scales, -/
theorem outA_9_eq (c : Dev nD) : outA_9 m c = kScale (iblk m c 0 t0) := by
  unfold outA_9
  rw [View.read_writes_junk_eq_canon]
  dsimp only [runA, kernelRun0_A]
  simp only [kernelRun0_A.sl.r_2, kernelRun0_A.sl.r_3, kernelRun0_A.sl.r_4, kernelRun0_A.sl.r_5]
  simp (disch := decide) only [View.canon_cons_unit_lit, View.readAt_eq_ld, Memref.IsWhole.read_unread, read_unread_whole, View.ld_unit_lit, readCov_eq_ld]
  rfl

/-- the first scratch the left operand of `y`'s second product, -/
theorem outA_s0_eq (c : Dev nD) : outA_s0 m c = kLeft (iblk m c 0 t0) (iblk m c 3 t0) := by
  unfold outA_s0
  rw [View.read_writes_junk_eq_canon]
  dsimp only [runA, kernelRun0_A]
  simp only [kernelRun0_A.sl.HS0_1, kernelRun0_A.sl.r, kernelRun0_A.sl.r_1, kernelRun0_A.sl.r_2, kernelRun0_A.sl.r_3, kernelRun0_A.sl.r_4, kernelRun0_A.sl.r_5, kernelRun0_A.sl.r_7]
  simp (disch := decide) only [View.canon_cons_unit_lit, View.readAt_eq_ld, Memref.IsWhole.read_unread, read_unread_whole, View.ld_unit_lit, readCov_eq_ld]
  rfl

/-- the second the left operand of the norms' second product, -/
theorem outA_s1_eq (c : Dev nD) : outA_s1 m c = kLeftNorm (iblk m c 3 t0) := by
  unfold outA_s1
  rw [View.read_writes_junk_eq_canon]
  dsimp only [runA, kernelRun0_A]
  simp only [kernelRun0_A.sl.HS1_1, kernelRun0_A.sl.r_6]
  simp (disch := decide) only [View.canon_cons_unit_lit, View.readAt_eq_ld, Memref.IsWhole.read_unread, read_unread_whole, View.ld_unit_lit, readCov_eq_ld]
  rfl

/-- and the third the scales again. -/
theorem outA_s2_eq (c : Dev nD) : outA_s2 m c = kScaleWide (iblk m c 0 t0) := by
  unfold outA_s2
  rw [View.read_writes_junk_eq_canon]
  dsimp only [runA, kernelRun0_A]
  simp only [kernelRun0_A.sl.HS2_1, kernelRun0_A.sl.r_2, kernelRun0_A.sl.r_3, kernelRun0_A.sl.r_4, kernelRun0_A.sl.r_5]
  simp (disch := decide) only [View.canon_cons_unit_lit, View.readAt_eq_ld, Memref.IsWhole.read_unread, read_unread_whole, View.ld_unit_lit, readCov_eq_ld]
  rfl

/-- The first block of the norms, -/
theorem outA_7_eq (c : Dev nD) : outA_7 m c = kNorm (iblk m c 1 t0) (iblk m c 2 t0) (iblk m c 3 t0) (iblk m c 4 t0) (kLeftNorm (iblk m c 3 t0)) := by
  unfold outA_7
  rw [View.read_writes_junk_eq_canon]
  dsimp only [runA, kernelRun0_A]
  simp (disch := decide) only [View.canon_cons_unit_lit]
  obtain ⟨h0, h1, h2, h3, h4, h5, h6, h7, h8, h9, h10, h11, h12, h13⟩ := columns_A c (ms0_1 t0) (hs0_1 t0) (iblk m c 1 t0)
  simp only [kernelRun0_A.sl.r_8, kernelRun0_A.sl.r_11, kernelRun0_A.sl.v29, kernelRun0_A.sl.HS1_1, kernelRun0_A.sl.r_6]
  rw [h0, h1, h2, h3, h4, h5, h6, h7, h8, h9, h10, h11, h12, h13]
  simp (disch := decide) only [View.canon_cons_unit_lit, View.readAt_eq_ld, Memref.IsWhole.read_unread, read_unread_whole, View.ld_unit_lit, readCov_eq_ld]
  rfl

/-- and a later one. -/
theorem outB_7_eq (c : Dev nD) (t : Fin cfg0.N) (h : ¬cond0_0 (grid0.coords t)) : outB_7 m c t h = kNorm (iblk m c 1 t) (iblk m c 2 t) (iblk m c 3 t) (iblk m c 4 t) (outA_s1 m c) := by
  unfold outB_7
  rw [View.read_writes_junk_eq_canon]
  dsimp only [runB, kernelRun0_B]
  simp (disch := decide) only [View.canon_cons_unit_lit]
  obtain ⟨h0, h1, h2, h3, h4, h5, h6, h7, h8, h9, h10, h11, h12, h13⟩ := columns_B c (ms0_1 t) (hs0_1 t) (iblk m c 1 t)
  simp only [kernelRun0_B.sl.r, kernelRun0_B.sl.r_3]
  rw [h0, h1, h2, h3, h4, h5, h6, h7, h8, h9, h10, h11, h12, h13]
  simp (disch := decide) only [View.canon_cons_unit_lit, View.readAt_eq_ld, Memref.IsWhole.read_unread, read_unread_whole, View.ld_unit_lit, readCov_eq_ld]
  rfl

/-- The first block of `y`, -/
theorem outA_6_eq (c : Dev nD) : outA_6 m c = kOut (iblk m c 1 t0) (iblk m c 2 t0) (iblk m c 4 t0) (iblk m c 5 t0) (kNorm (iblk m c 1 t0) (iblk m c 2 t0) (iblk m c 3 t0) (iblk m c 4 t0) (kLeftNorm (iblk m c 3 t0))) (kCodes (iblk m c 0 t0)) (kLeft (iblk m c 0 t0) (iblk m c 3 t0)) (kScaleWide (iblk m c 0 t0)) := by
  unfold outA_6
  rw [View.read_writes_junk_eq_canon]
  dsimp only [runA, kernelRun0_A]
  simp (disch := decide) only [View.canon_cons_unit_lit]
  obtain ⟨h0, h1, h2, h3, h4, h5, h6, h7, h8, h9, h10, h11, h12, h13⟩ := columns_A c (ms0_1 t0) (hs0_1 t0) (iblk m c 1 t0)
  simp only [kernelRun0_A.sl.r_209, kernelRun0_A.sl.r_8, kernelRun0_A.sl.r_9, kernelRun0_A.sl.r_10, kernelRun0_A.sl.r_11, kernelRun0_A.sl.v29, kernelRun0_A.sl.HS1_1, kernelRun0_A.sl.r_6, kernelRun0_A.sl.v4381, kernelRun0_A.sl.v4384, kernelRun0_A.sl.v4387, kernelRun0_A.sl.H8_1, kernelRun0_A.sl.HS0_1, kernelRun0_A.sl.HS2_1, kernelRun0_A.sl.r, kernelRun0_A.sl.r_1, kernelRun0_A.sl.r_2, kernelRun0_A.sl.r_3, kernelRun0_A.sl.r_4, kernelRun0_A.sl.r_5, kernelRun0_A.sl.r_7]
  rw [h0, h1, h2, h3, h4, h5, h6, h7, h8, h9, h10, h11, h12, h13]
  simp (disch := decide) only [View.canon_cons_unit_lit, View.readAt_eq_ld, Memref.IsWhole.read_unread, read_unread_whole, View.ld_unit_lit, readCov_eq_ld]
  rfl

/-- and a later one. -/
theorem outB_6_eq (c : Dev nD) (t : Fin cfg0.N) (h : ¬cond0_0 (grid0.coords t)) : outB_6 m c t h = kOut (iblk m c 1 t) (iblk m c 2 t) (iblk m c 4 t) (iblk m c 5 t) (kNorm (iblk m c 1 t) (iblk m c 2 t) (iblk m c 3 t) (iblk m c 4 t) (outA_s1 m c)) (outA_8 m c) (outA_s0 m c) (outA_s2 m c) := by
  unfold outB_6
  rw [View.read_writes_junk_eq_canon]
  dsimp only [runB, kernelRun0_B]
  simp (disch := decide) only [View.canon_cons_unit_lit]
  obtain ⟨h0, h1, h2, h3, h4, h5, h6, h7, h8, h9, h10, h11, h12, h13⟩ := columns_B c (ms0_1 t) (hs0_1 t) (iblk m c 1 t)
  simp only [kernelRun0_B.sl.r, kernelRun0_B.sl.r_1, kernelRun0_B.sl.r_2, kernelRun0_B.sl.r_3, kernelRun0_B.sl.r_201]
  rw [h0, h1, h2, h3, h4, h5, h6, h7, h8, h9, h10, h11, h12, h13]
  simp (disch := decide) only [View.canon_cons_unit_lit, View.readAt_eq_ld, Memref.IsWhole.read_unread, read_unread_whole, View.ld_unit_lit, readCov_eq_ld]
  rfl

/-- The first point is the only one at which the prologue runs. -/
theorem eq_t0 (t : Fin cfg0.N) (h : cond0_0 (grid0.coords t)) : t = t0 := by
  have h1 := (hcond0_0 t).mp h
  have h2 : t.val < 18 := lt_of_lt_of_eq t.isLt N_0
  exact Fin.ext (show t.val = 0 by omega)

/-- Every block of the norms, -/
theorem out_7_eq (c : Dev nD) (t : Fin cfg0.N) : out_7 m c t = kNorm (iblk m c 1 t) (iblk m c 2 t) (iblk m c 3 t) (iblk m c 4 t) (kLeftNorm (iblk m c 3 t0)) := by
  unfold out_7
  split
  · rename_i h
    obtain rfl := eq_t0 t h
    exact outA_7_eq m c
  · rw [outB_7_eq, outA_s1_eq]

/-- and every block of `y`. -/
theorem out_6_eq (c : Dev nD) (t : Fin cfg0.N) : out_6 m c t
    = kOut (iblk m c 1 t) (iblk m c 2 t) (iblk m c 4 t) (iblk m c 5 t) (out_7 m c t) (kCodes (iblk m c 0 t0)) (kLeft (iblk m c 0 t0) (iblk m c 3 t0)) (kScaleWide (iblk m c 0 t0)) := by
  rw [out_7_eq]
  unfold out_6
  split
  · rename_i h
    obtain rfl := eq_t0 t h
    exact outA_6_eq m c
  · rw [outB_6_eq, outA_s0_eq, outA_s1_eq, outA_s2_eq, outA_8_eq]

end Cert.KernelIdeal.Gen

end
-- ==== Proof.KI.Norm.lean ====
/- The column norms of one block at a lane. -/
module

public import proofs.«01_k».proof.Proof.KI.Blocks

@[expose] public section

set_option maxRecDepth 65536
set_option pp.deepTerms false

noncomputable section

namespace Cert.KernelIdeal.Gen

open Idealize.ShloMosaic Idealize.ShloMosaic.TcCoe

/-- A load of 32 rows of a block, widened, is those rows. -/
theorem ld32 (w : Vec Ideal S1152x1536 .fp8e4m3) (r n : ℕ)
    (inb : ∀ a : Fin S1152x1536.rank, (![r, n] : Fin 2 → ℕ) a + (![32, 128] : Fin 2 → ℕ) a ≤ S1152x1536.size a) :
    extf .f32 (extf .bf16 (shapeCast S32x128
        (View.ld w (Rect.unit (s := S1152x1536) ![r, n] ![32, 128] inb))
        shapeCasts_S32x128_S32x128) bitsLt_fp8e4m3_bf16) bitsLt_bf16_f32 = rows32 w r n := by
  funext i
  have h0 : r + 32 ≤ 1152 := inb 0
  have h1 : n + 128 ≤ 1536 := inb 1
  idx_vars i
  pointwise
  unfold rows32 entry
  have ha : r + i0.val < 1152 := by omega
  have hb : n + i1.val < 1536 := by omega
  rw [dif_pos ⟨ha, hb⟩]
  rfl

/-- A column's sum, lane by lane, in the block's own lanes. -/
theorem fullSum_at (w : Vec Ideal S1152x1536 .fp8e4m3) (n : ℕ) (x : Fin 128) (j : Fin 1536) (h : n + x.val = j.val) :
    fullSum w n (ix2 0 x) = ∑ r : Fin 1152, w (ix2 r j) * w (ix2 r j) := by
  show ∑ r ∈ Finset.range 1152, entry w r (n + x.val) * entry w r (n + x.val) = _
  rw [h, Finset.sum_range]
  refine Finset.sum_congr rfl fun r _ => ?_
  unfold entry
  rw [dif_pos ⟨r.isLt, j.isLt⟩]

/-- A choice whose two sides agree is either side. -/
theorem pick {P : Prop} [Decidable P] {x : P → EReal} {y : ¬P → EReal} {z : EReal} (h1 : ∀ h, x h = z) (h2 : ∀ h, y h = z) :
    dite P x y = z := by
  by_cases h : P
  · rw [dif_pos h]; exact h1 h
  · rw [dif_neg h]; exact h2 h

/-- The twelve columns side by side. -/
theorem columns_at (w : Vec Ideal S1152x1536 .fp8e4m3) (hc) (j : Fin 1536) :
    concatenate S1x1536 1 [⟨S1x128, fullSum w 0⟩, ⟨S1x128, fullSum w 128⟩, ⟨S1x128, fullSum w 256⟩,
      ⟨S1x128, fullSum w 384⟩, ⟨S1x128, fullSum w 512⟩, ⟨S1x128, fullSum w 640⟩, ⟨S1x128, fullSum w 768⟩,
      ⟨S1x128, fullSum w 896⟩, ⟨S1x128, fullSum w 1024⟩, ⟨S1x128, fullSum w 1152⟩, ⟨S1x128, fullSum w 1280⟩,
      ⟨S1x128, fullSum w 1408⟩] hc (ix2 0 j) = ∑ r : Fin 1152, w (ix2 r j) * w (ix2 r j) := by
  have hj := j.isLt
  pointwise
  iterate 11 refine pick (fun h => fullSum_at w _ _ j (by dsimp only; omega)) fun h => ?_
  exact fullSum_at w _ _ j (by dsimp only; omega)

/-- The last operations of the norms: the last column's remaining rows, the columns side by side, the cross terms, the
    root and the scales. -/
theorem norm_pay (w : Vec Ideal S1152x1536 .fp8e4m3) (p q : FVec Ideal S1x1536 .f32)
    (c0 c1 c2 c3 c4 c5 c6 c7 c8 c9 c10 : FVec Ideal S1x128 .f32) (v1 v2 v3 : Vec Ideal S32x128 .fp8e4m3)
    (h1 : extf .f32 (extf .bf16 (shapeCast S32x128 v1 shapeCasts_S32x128_S32x128) bitsLt_fp8e4m3_bf16) bitsLt_bf16_f32
      = rows32 w 1056 1408)
    (h2 : extf .f32 (extf .bf16 (shapeCast S32x128 v2 shapeCasts_S32x128_S32x128) bitsLt_fp8e4m3_bf16) bitsLt_bf16_f32
      = rows32 w 1088 1408)
    (h3 : extf .f32 (extf .bf16 (shapeCast S32x128 v3 shapeCasts_S32x128_S32x128) bitsLt_fp8e4m3_bf16) bitsLt_bf16_f32
      = rows32 w 1120 1408) :
    k0_pay234 p q c0 c1 c2 c3 c4 c5 c6 c7 c8 c9 c10 (runSum w 1024 1408) (rows32 w 1024 1408) (rows16 w 1024 1408) v1 v2 v3
    = mulf (sqrt (maximumf (addf (concatenate S1x1536 1 [⟨S1x128, c0⟩, ⟨S1x128, c1⟩, ⟨S1x128, c2⟩, ⟨S1x128, c3⟩,
        ⟨S1x128, c4⟩, ⟨S1x128, c5⟩, ⟨S1x128, c6⟩, ⟨S1x128, c7⟩, ⟨S1x128, c8⟩, ⟨S1x128, c9⟩, ⟨S1x128, c10⟩,
        ⟨S1x128, fullSum w 1408⟩] concatenates_S1x128_S1x128_S1x128_S1x128_S1x128_S1x128_S1x128_S1x128_S1x128_S1x128_S1x128_S1x128_S1x1536_d1)
        (mulf (broadcast S1x1536 (Scalar.ofBits .f32 0x40000000#32)) q)) (broadcast S1x1536 (Scalar.ofBits .f32 0x00000000#32)))) (absf p) := by
  refine congrArg (fun c => mulf (sqrt (maximumf (addf (concatenate S1x1536 1 [⟨S1x128, c0⟩, ⟨S1x128, c1⟩, ⟨S1x128, c2⟩,
    ⟨S1x128, c3⟩, ⟨S1x128, c4⟩, ⟨S1x128, c5⟩, ⟨S1x128, c6⟩, ⟨S1x128, c7⟩, ⟨S1x128, c8⟩, ⟨S1x128, c9⟩, ⟨S1x128, c10⟩,
    ⟨S1x128, c⟩] concatenates_S1x128_S1x128_S1x128_S1x128_S1x128_S1x128_S1x128_S1x128_S1x128_S1x128_S1x128_S1x128_S1x1536_d1)
    (mulf (broadcast S1x1536 (Scalar.ofBits .f32 0x40000000#32)) q))
    (broadcast S1x1536 (Scalar.ofBits .f32 0x00000000#32)))) (absf p)) ?_
  simp only [h1, h2, h3, lowHalf, highHalf, sum_step, Nat.reduceAdd, Nat.reduceMod]
  exact sum_end _ _ _ _

/-- The norms of a block are the roots of the columns' sums of squares and twice the cross terms, not below zero, times
    the weights' scales. -/
theorem kNorm_at (w : Vec Ideal S1152x1536 .fp8e4m3) (s : Vec Ideal S1x1536 .f32) (a : Vec Ideal S16x1152 .bf16)
    (b : Vec Ideal S16x1536 .bf16) (l : Vec Ideal S16x224 .bf16) (j : Fin 1536) :
    kNorm w s a b l (ix2 0 j) = Ideal.sqrt (max ((∑ r : Fin 1152, w (ix2 r j) * w (ix2 r j))
      + Ideal.ofBits .f32 0x40000000#32
        * k0_pay21 s b (View.ld w (Rect.unit ![0, 0] ![1024, 1536] inb_S1152x1536_S1024x1536_0_0))
            (View.ld w (Rect.unit ![1024, 0] ![128, 1536] inb_S1152x1536_S128x1536_1024_0)) b
            (View.ld a (Rect.unit ![0, 0] ![16, 1024] inb_S16x1152_S16x1024_0_0)) l (ix2 0 j)) 0)
      * FloatOps.absf (F := Ideal) (φ := .f32) (s (ix2 0 j)) := by
  have h := congrFun (norm_pay w (k0_pay18 s)
    (k0_pay21 s b (View.ld w (Rect.unit ![0, 0] ![1024, 1536] inb_S1152x1536_S1024x1536_0_0))
      (View.ld w (Rect.unit ![1024, 0] ![128, 1536] inb_S1152x1536_S128x1536_1024_0)) b
      (View.ld a (Rect.unit ![0, 0] ![16, 1024] inb_S16x1152_S16x1024_0_0)) l)
    (fullSum w 0) (fullSum w 128) (fullSum w 256) (fullSum w 384) (fullSum w 512) (fullSum w 640) (fullSum w 768)
    (fullSum w 896) (fullSum w 1024) (fullSum w 1152) (fullSum w 1280) _ _ _
    (ld32 w 1056 1408 inb_S1152x1536_S32x128_1056_1408) (ld32 w 1088 1408 inb_S1152x1536_S32x128_1088_1408)
    (ld32 w 1120 1408 inb_S1152x1536_S32x128_1120_1408)) (ix2 0 j)
  refine h.trans ?_
  show Ideal.sqrt (max (concatenate S1x1536 1 _ _ (ix2 0 j) + Ideal.ofBits .f32 0x40000000#32 * _) (Ideal.ofBits .f32 0#32)) * FloatOps.absf (F := Ideal) (φ := .f32) (k0_pay18 s (ix2 0 j)) = _
  rw [columns_at, Ideal.ofBits_zero]
  congr 2
  pointwise [k0_pay18]

end Cert.KernelIdeal.Gen

end
-- ==== Proof.Reals.lean ====
/- Arithmetic of real numbers read as extended real numbers. -/
module

public import Idealize.ShloMosaic.Lib.Pointwise

@[expose] public section

noncomputable section

namespace Cert.Dora

open Idealize.ShloMosaic

/-- A sum of real numbers, -/
theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- a quotient, -/
theorem coe_div (x y : ℝ) (h : y ≠ 0) : Ideal.div (x : EReal) (y : EReal) = ((x / y : ℝ) : EReal) := by
  rw [Ideal.div_coe h, ← EReal.coe_mul, mul_one_div]

/-- a root, -/
theorem coe_sqrt (x : ℝ) (h : 0 ≤ x) : Ideal.sqrt (x : EReal) = ((Real.sqrt x : ℝ) : EReal) := by
  rw [Ideal.sqrt_coe, if_neg (not_lt.mpr h)]

/-- the larger of two, -/
theorem coe_max (x y : ℝ) : max (x : EReal) (y : EReal) = ((max x y : ℝ) : EReal) :=
  (EReal.coe_strictMono.monotone.map_max).symm

/-- the smaller of two. -/
theorem coe_min (x y : ℝ) : min (x : EReal) (y : EReal) = ((min x y : ℝ) : EReal) :=
  (EReal.coe_strictMono.monotone.map_min).symm

end Cert.Dora

end
-- ==== Proof.KI.Cross.lean ====
/- The cross terms of the norms of one block, and the second product of `y`. -/
module

public import proofs.«01_k».proof.Proof.KI.Blocks
public import proofs.«01_k».proof.Proof.Reals

@[expose] public section

set_option maxRecDepth 16384

noncomputable section

namespace Cert.KernelIdeal.Gen

open Idealize.ShloMosaic Idealize.ShloMosaic.TcCoe Cert.Dora

/-- A sum over the 224 places of the second products: 128 codes and six groups of 16. -/
theorem sum224 (f : Fin 224 → EReal) : ∑ k, f k = ∑ i : Fin 128, f ⟨i.val, by omega⟩
    + (∑ i : Fin 16, f ⟨128 + i.val, by omega⟩ + (∑ i : Fin 16, f ⟨128 + (16 + i.val), by omega⟩
    + (∑ i : Fin 16, f ⟨128 + (16 + (16 + i.val)), by omega⟩ + (∑ i : Fin 16, f ⟨128 + (16 + (16 + (16 + i.val))), by omega⟩
    + (∑ i : Fin 16, f ⟨128 + (16 + (16 + (16 + (16 + i.val)))), by omega⟩
    + ∑ i : Fin 16, f ⟨128 + (16 + (16 + (16 + (16 + (16 + i.val))))), by omega⟩))))) := by
  rw [show ∑ k, f k = _ from Fin.sum_univ_add (a := 128) (b := 96) f]
  rw [show ∑ k : Fin 96, f (Fin.natAdd 128 k) = _ from Fin.sum_univ_add (a := 16) (b := 80) _]
  rw [show ∑ k : Fin 80, f (Fin.natAdd 128 (Fin.natAdd 16 k)) = _ from Fin.sum_univ_add (a := 16) (b := 64) _]
  rw [show ∑ k : Fin 64, f (Fin.natAdd 128 (Fin.natAdd 16 (Fin.natAdd 16 k))) = _ from Fin.sum_univ_add (a := 16) (b := 48) _]
  rw [show ∑ k : Fin 48, f (Fin.natAdd 128 (Fin.natAdd 16 (Fin.natAdd 16 (Fin.natAdd 16 k)))) = _ from
    Fin.sum_univ_add (a := 16) (b := 32) _]
  rw [show ∑ k : Fin 32, f (Fin.natAdd 128 (Fin.natAdd 16 (Fin.natAdd 16 (Fin.natAdd 16 (Fin.natAdd 16 k))))) = _ from
    Fin.sum_univ_add (a := 16) (b := 16) _]
  rfl

/-- A sum over the 1152 features: the first 1024 and the last 128. -/
theorem sum1152 (f : Fin 1152 → ℝ) : ∑ k, f k = ∑ i : Fin 1024, f ⟨i.val, by omega⟩ + ∑ i : Fin 128, f ⟨1024 + i.val, by omega⟩ := by
  rw [show ∑ k, f k = _ from Fin.sum_univ_add (a := 1024) (b := 128) f]
  rfl

/-- The pattern of one half. -/
theorem ofBits_half : Ideal.ofBits .f32 1056964608#32 = ((1 / 2 : ℝ) : EReal) := by
  simp [Ideal.ofBits, Ideal.ieee]; rw [← EReal.coe_mul]; norm_num

variable (W : Fin 1152 → Fin 1536 → ℝ) (S : Fin 1536 → ℝ) (A : Fin 16 → Fin 1152 → ℝ) (B : Fin 16 → Fin 1536 → ℝ)

/-- The cross terms, over the real numbers. -/
theorem cross_at (wm : Vec Ideal S1024x1536 .fp8e4m3) (wt : Vec Ideal S128x1536 .fp8e4m3) (am : Vec Ideal S16x1024 .bf16)
    (s : Vec Ideal S1x1536 .f32) (a : Vec Ideal S16x1152 .bf16) (b : Vec Ideal S16x1536 .bf16)
    (hm : ∀ k j, wm (ix2 k j) = (W ⟨k.val, by omega⟩ j : EReal)) (ht : ∀ k j, wt (ix2 k j) = (W ⟨1024 + k.val, by omega⟩ j : EReal))
    (hn : ∀ r k, am (ix2 r k) = (A r ⟨k.val, by omega⟩ : EReal)) (hs : ∀ j, s (ix2 0 j) = (S j : EReal))
    (ha : ∀ r k, a (ix2 r k) = (A r k : EReal)) (hb : ∀ r j, b (ix2 r j) = (B r j : EReal)) (j : Fin 1536) (h0 : S j ≠ 0) :
    k0_pay21 s b wm wt b am (kLeftNorm a) (ix2 0 j)
    = ((∑ r, B r j / S j * (∑ k, A r k * W k j + ∑ p, 1 / 2 * (∑ k, A r k * A p k) * (B p j / S j)) : ℝ) : EReal) := by
  pointwise [k0_pay21, k0_pay20, k0_pay19, k0_pay18, kLeftNorm, k0_pay17, k0_pay14]
  simp only [hm, ht, hn, hs, ha, hb, ofBits_half, coe_div _ _ h0, ← EReal.coe_mul, ← EReal.coe_sub, coe_sum, sub_self]
  simp only [sum224]
  simp only [Fin.is_lt, dif_pos, add_lt_iff_neg_left, not_lt_zero', dif_neg, not_false_eq_true, Nat.add_sub_cancel_left, Fin.eta]
  simp only [← EReal.coe_mul, coe_sum, ← EReal.coe_add, zero_mul, mul_zero, Finset.sum_const_zero, add_zero]
  refine congrArg (fun r : ℝ => (r : EReal)) ?_
  refine Finset.sum_congr rfl fun r _ => ?_
  rw [sum1152 (fun k => A r k * W k j), add_assoc]

end Cert.KernelIdeal.Gen

end
-- ==== Proof.KI.Out.lean ====
/- One block of `y` at an index, over the real numbers. -/
module

public import proofs.«01_k».proof.Proof.KI.Cross

@[expose] public section

set_option maxRecDepth 16384

noncomputable section

namespace Cert.KernelIdeal.Gen

open Idealize.ShloMosaic Idealize.ShloMosaic.TcCoe Cert.Dora

variable (W : Fin 1152 → Fin 1536 → ℝ) (S : Fin 1536 → ℝ) (A : Fin 16 → Fin 1152 → ℝ) (B : Fin 16 → Fin 1536 → ℝ)
  (X Q : Fin 256 → Fin 1152 → ℝ) (I C : Fin 256 → ℝ)

/-- The left operand of the second product: the last 128 codes, then the products with `lora_a` over the scale against
    the parts of the weight that are not zero. -/
theorem kLeft_at (x : Vec Ideal S256x1152 .bf16) (a : Vec Ideal S16x1152 .bf16)
    (hx : ∀ i k, x (ix2 i k) = (X i k : EReal)) (ha : ∀ r k, a (ix2 r k) = (A r k : EReal))
    (hq : ∀ i k, kCodes x (ix2 i k) = (Q i k : EReal)) (hi : ∀ i, k0_pay9 (F := Ideal) (kExpo x) (ix2 i 0) = (I i : EReal))
    (i : Fin 256) (k : Fin 224) :
    kLeft x a (ix2 i k) = if h : k.val < 128 then ((Q i ⟨1024 + k.val, by omega⟩ : ℝ) : EReal)
      else if h : k.val - 128 < 16 then (((∑ p, X i p * A ⟨k.val - 128, h⟩ p) * I i : ℝ) : EReal)
      else if h : k.val - 128 - 16 < 16 then 0
      else if h : k.val - 128 - 16 - 16 < 16 then 0
      else if h : k.val - 128 - 16 - 16 - 16 < 16 then (((∑ p, X i p * A ⟨k.val - 128 - 16 - 16 - 16, h⟩ p) * I i : ℝ) : EReal)
      else if h : k.val - 128 - 16 - 16 - 16 - 16 < 16 then 0
      else (((∑ p, X i p * A ⟨k.val - 128 - 16 - 16 - 16 - 16 - 16, by omega⟩ p) * I i : ℝ) : EReal) := by
  unfold kLeft
  have hq' : ∀ i k, k0_pay10 (F := Ideal) (k0_pay3 x) (kExpo x) (ix2 i k) = (Q i k : EReal) := hq
  generalize kExpo x = E at hi hq' ⊢
  pointwise [k0_pay16, k0_pay15, k0_pay14, k0_pay2]
  simp only [hx, ha, hi, hq', ← EReal.coe_mul, coe_sum]

/-- A block of `y`. -/
theorem pay1_at (wm : Vec Ideal S1024x1536 .fp8e4m3) (wt : Vec Ideal S128x1536 .fp8e4m3) (qm : Vec Ideal S256x1024 .fp8e4m3)
    (s : Vec Ideal S1x1536 .f32) (b : Vec Ideal S16x1536 .bf16) (g : Vec Ideal S1x1536 .f32) (n : FVec Ideal S1x1536 .f32)
    (x : Vec Ideal S256x1152 .bf16) (a : Vec Ideal S16x1152 .bf16) (z : Vec Ideal S256x128 .f32)
    (hm : ∀ k j, wm (ix2 k j) = (W ⟨k.val, by omega⟩ j : EReal)) (ht : ∀ k j, wt (ix2 k j) = (W ⟨1024 + k.val, by omega⟩ j : EReal))
    (hqm : ∀ i k, qm (ix2 i k) = (Q i ⟨k.val, by omega⟩ : EReal)) (hs : ∀ j, s (ix2 0 j) = (S j : EReal))
    (hb : ∀ r j, b (ix2 r j) = (B r j : EReal)) (hx : ∀ i k, x (ix2 i k) = (X i k : EReal))
    (ha : ∀ r k, a (ix2 r k) = (A r k : EReal)) (hq : ∀ i k, kCodes x (ix2 i k) = (Q i k : EReal))
    (hi : ∀ i, k0_pay9 (F := Ideal) (kExpo x) (ix2 i 0) = (I i : EReal)) (hz : ∀ i l, z (ix2 i l) = (C i : EReal))
    (i : Fin 256) (j : Fin 1536) (h0 : S j ≠ 0) :
    k0_pay1 (k0_pay18 s) (k0_pay19 wm) (k0_pay20 s b wt) n g qm (kLeft x a) z (ix2 i j)
      = (((∑ k, Q i k * W k j + ∑ r, (∑ k, X i k * A r k) * I i * (B r j / S j)) * C i : ℝ) : EReal)
        * ((S j : EReal) * Ideal.div (g (ix2 0 j)) (n (ix2 0 j))) := by
  have hl := kLeft_at A X Q I x a hx ha hq hi
  generalize kLeft x a = l at hl ⊢
  pointwise [k0_pay1, k0_pay20, k0_pay19, k0_pay18]
  simp only [hm, ht, hqm, hs, hb, hz, coe_div _ _ h0, ← EReal.coe_mul, ← EReal.coe_sub, coe_sum, sub_self, dite_eq_ite, ite_self]
  simp only [sum224, hl]
  simp only [Fin.is_lt, dif_pos, add_lt_iff_neg_left, not_lt_zero', dif_neg, if_pos, if_neg, if_true, if_false, not_false_eq_true, Nat.add_sub_cancel_left, Fin.eta]
  simp only [← EReal.coe_mul, coe_sum, ← EReal.coe_add, zero_mul, mul_zero, EReal.coe_zero, Finset.sum_const_zero, add_zero]
  rw [sum1152 (fun k => Q i k * W k j)]
  simp only [add_assoc]

end Cert.KernelIdeal.Gen

end
-- ==== Proof.Expo.lean ====
/- The exponent of a positive number, found by a search over powers of two and by a count of powers of two. -/
module

public import proofs.«01_k».proof.Proof.Reals

@[expose] public section

noncomputable section

namespace Cert.Dora

open Idealize.ShloMosaic

/-- The float whose exponent field is `n` and whose other bits are zero. -/
def power (n : ℕ) : EReal := if n = 0 then 0 else if n < 255 then (((2 : ℝ) ^ ((n : ℤ) - 127) : ℝ) : EReal) else ⊤

/-- For an exponent field that is neither 0 nor 255 the pattern is a power of two. -/
theorem power_pos {n : ℕ} (h : n ≠ 0) (h' : n < 255) : power n = (((2 : ℝ) ^ ((n : ℤ) - 127) : ℝ) : EReal) := by
  rw [power, if_neg h, if_pos h']

/-- What a pattern with neither sign nor fraction denotes. -/
theorem ieee_power (v : BitVec 32) (n : ℕ) (h : n < 256) (h1 : v.extractLsb' (8 + 23) 1 = 0#1) (h2 : (v.extractLsb' 23 8).toNat = n)
    (h3 : (v.extractLsb' 0 23).toNat = 0) : Ideal.ieee 8 23 v = power n := by
  simp only [Ideal.ieee, h1, h2, h3, power]
  by_cases h0 : n = 0
  · subst h0; simp
  by_cases h5 : n = 255
  · subst h5; simp
  have h6 : n < 255 := by omega
  rw [if_neg (show ¬ n = 2 ^ 8 - 1 from h5), if_neg h0, if_neg h0, if_pos h6]
  have : (2 : ℝ) ^ ((n : ℤ) - 127) = (2 : ℝ) ^ (23 : ℤ) * (2 : ℝ) ^ ((n : ℤ) - (2 ^ (8 - 1) - 1) - (23 : ℕ)) := by
    rw [← zpow_add₀ (by norm_num)]; congr 1; norm_num
  rw [this]
  norm_num

/-- A whole number shifted into the exponent field denotes that power. -/
theorem ofBits_power (n : ℕ) (h : n < 256) : Ideal.ofBits .f32 (BitVec.ofNat 32 n <<< 23) = power n := by
  have e : (BitVec.ofNat 32 n <<< 23).toNat = n * 2 ^ 23 := by
    rw [BitVec.toNat_shiftLeft, BitVec.toNat_ofNat, Nat.shiftLeft_eq]
    omega
  refine ieee_power _ n h ?_ ?_ ?_
  · apply BitVec.eq_of_toNat_eq
    rw [BitVec.extractLsb'_toNat, e, Nat.shiftRight_eq_div_pow]
    show _ = 0
    omega
  · rw [BitVec.extractLsb'_toNat, e, Nat.shiftRight_eq_div_pow]
    omega
  · rw [BitVec.extractLsb'_toNat, e, Nat.shiftRight_eq_div_pow]
    omega

/-- The powers grow with the exponent field. -/
theorem power_mono : Monotone power := by
  intro a b hab
  unfold power
  by_cases hb : b < 255
  · by_cases ha0 : a = 0
    · rw [if_pos ha0]
      split_ifs
      · exact le_refl _
      · rw [← EReal.coe_zero]; exact EReal.coe_le_coe_iff.mpr (by positivity)
    · rw [if_neg ha0, if_neg (show ¬ b = 0 by omega), if_pos (show a < 255 by omega), if_pos hb]
      exact EReal.coe_le_coe_iff.mpr (zpow_le_zpow_right₀ (by norm_num) (by omega))
  · rw [if_neg (c := b = 0) (by omega), if_neg hb]; exact le_top

/-- One step of the search: keep the candidate if the number is below the power at the candidate and the step. -/
def probe (q : EReal) (b s : BitVec 32) : BitVec 32 :=
  Scalar.select (FloatOps.cmpf (F := Ideal) (φ := .f32) .olt q (FloatOps.ofBits (F := Ideal) .f32 ((b + s) <<< 23))) b (b + s)

/-- A step keeps the number between the powers at the candidate and at the candidate and the step. -/
theorem probe_spec (q : EReal) (b s : ℕ) (hs : 1 ≤ s) (h : b + 2 * s ≤ 256) (hl : power b ≤ q) (hu : q < power (b + 2 * s)) :
    ∃ b' : ℕ, probe q (BitVec.ofNat 32 b) (BitVec.ofNat 32 s) = BitVec.ofNat 32 b' ∧ b' + s ≤ 256 ∧ power b' ≤ q ∧ q < power (b' + s) := by
  have e : BitVec.ofNat 32 b + BitVec.ofNat 32 s = BitVec.ofNat 32 (b + s) := by rw [BitVec.ofNat_add]
  have hp : FloatOps.ofBits (F := Ideal) .f32 (BitVec.ofNat 32 (b + s) <<< 23) = power (b + s) := ofBits_power _ (by omega)
  unfold probe
  rw [e, hp]
  by_cases hq : q < power (b + s)
  · refine ⟨b, ?_, by omega, hl, hq⟩
    have : FloatOps.cmpf (F := Ideal) (φ := .f32) .olt q (power (b + s)) = 1#1 := by
      show BitVec.ofBool (decide (q < power (b + s))) = _
      rw [decide_eq_true hq]; rfl
    rw [this]; rfl
  · refine ⟨b + s, ?_, by omega, not_lt.mp hq, ?_⟩
    · have : FloatOps.cmpf (F := Ideal) (φ := .f32) .olt q (power (b + s)) = 0#1 := by
        show BitVec.ofBool (decide (q < power (b + s))) = _
        rw [decide_eq_false hq]; rfl
      rw [this]; rfl
    · rw [add_assoc, ← two_mul]; exact hu

/-- The search: eight steps. -/
def search (q : EReal) : BitVec 32 :=
  probe q (probe q (probe q (probe q (probe q (probe q (probe q (probe q 0#32 128#32) 64#32) 32#32) 16#32) 8#32) 4#32) 2#32) 1#32

/-- The search finds the power of two just below the number. -/
theorem search_spec (q : ℝ) (h : 0 ≤ q) : ∃ b : ℕ, search q = BitVec.ofNat 32 b ∧ b < 255 ∧ power b ≤ q ∧ (q : EReal) < power (b + 1) := by
  obtain ⟨b1, e1, h1, l1, u1⟩ := probe_spec q 0 128 (by norm_num) (by norm_num)
    (by rw [power, if_pos rfl, ← EReal.coe_zero]; exact EReal.coe_le_coe_iff.mpr h) (EReal.coe_lt_top q)
  obtain ⟨b2, e2, h2, l2, u2⟩ := probe_spec q b1 64 (by norm_num) h1 l1 u1
  obtain ⟨b3, e3, h3, l3, u3⟩ := probe_spec q b2 32 (by norm_num) h2 l2 u2
  obtain ⟨b4, e4, h4, l4, u4⟩ := probe_spec q b3 16 (by norm_num) h3 l3 u3
  obtain ⟨b5, e5, h5, l5, u5⟩ := probe_spec q b4 8 (by norm_num) h4 l4 u4
  obtain ⟨b6, e6, h6, l6, u6⟩ := probe_spec q b5 4 (by norm_num) h5 l5 u5
  obtain ⟨b7, e7, h7, l7, u7⟩ := probe_spec q b6 2 (by norm_num) h6 l6 u6
  obtain ⟨b8, e8, h8, l8, u8⟩ := probe_spec q b7 1 (by norm_num) h7 l7 u7
  refine ⟨b8, ?_, ?_, l8, u8⟩
  · unfold search
    rw [show (0#32) = BitVec.ofNat 32 0 from rfl, show (128#32) = BitVec.ofNat 32 128 from rfl, e1, e2, e3, e4, e5, e6, e7, e8]
  · by_contra hb
    have : power b8 = ⊤ := by rw [power, if_neg (by omega), if_neg (by omega)]
    rw [this] at l8
    exact absurd (lt_of_le_of_lt l8 (EReal.coe_lt_top q)) (lt_irrefl _)

/-- The exponent, from the search's answer: none for zero. -/
def expoOf (b : ℕ) : ℤ := if b = 0 then 0 else (b : ℤ) - 126

/-- The same as the machine computes it. -/
def finish (b : BitVec 32) : BitVec 32 := Scalar.select (IntOp.cmpi .eq b 0#32) 0#32 (b - 126#32)

/-- The scale's pattern and its reciprocal's. -/
theorem scale_bits : ∀ b : Fin 253, (finish (BitVec.ofNat 32 b.val) + 127#32 = BitVec.ofNat 32 (if b.val = 0 then 127 else b.val + 1))
    ∧ (127#32 - finish (BitVec.ofNat 32 b.val) = BitVec.ofNat 32 (if b.val = 0 then 127 else 253 - b.val)) := by decide +kernel

/-- The bits the kernel makes for the scale denote two to the exponent. -/
theorem scale_val (b : ℕ) (h : b < 250) : Ideal.ofBits .f32 ((finish (BitVec.ofNat 32 b) + 127#32) <<< 23)
    = (((2 : ℝ) ^ (expoOf b) : ℝ) : EReal) := by
  rw [(scale_bits ⟨b, by omega⟩).1]
  unfold expoOf
  by_cases h0 : b = 0
  · simp only [h0, if_true]
    rw [ofBits_power _ (by norm_num), power_pos (by norm_num) (by norm_num)]; norm_num
  · simp only [h0, if_false]
    rw [ofBits_power _ (by omega), power_pos (by omega) (by omega)]
    congr 2; push_cast; ring

/-- The bits the kernel makes for the inverse scale denote two to minus the exponent. -/
theorem inv_val (b : ℕ) (h : b < 250) : Ideal.ofBits .f32 ((127#32 - finish (BitVec.ofNat 32 b)) <<< 23)
    = (((2 : ℝ) ^ (-expoOf b) : ℝ) : EReal) := by
  rw [(scale_bits ⟨b, by omega⟩).2]
  unfold expoOf
  by_cases h0 : b = 0
  · simp only [h0, if_true]
    rw [ofBits_power _ (by norm_num), power_pos (by norm_num) (by norm_num)]; norm_num
  · simp only [h0, if_false]
    rw [ofBits_power _ (by omega), power_pos (by omega) (by omega)]
    congr 2; rw [Nat.cast_sub (by omega)]; push_cast; ring

/-- The powers of two not above a number that lies between two neighbouring ones: their count. -/
theorem count_spec (q : ℝ) (b : ℕ) (hb : b < 255) (hl : power b ≤ q) (hu : (q : EReal) < power (b + 1)) (hu' : q < (2 : ℝ) ^ (120 : ℤ)) :
    (∑ k : Fin 254, if (2 : ℝ) ^ ((k.val : ℤ) - 126) ≤ q then (1 : ℝ) else 0) = b := by
  have hb' : b < 250 := by
    by_contra h
    rw [power_pos (by omega) hb, EReal.coe_le_coe_iff] at hl
    have : (2 : ℝ) ^ (120 : ℤ) ≤ (2 : ℝ) ^ ((b : ℤ) - 127) := zpow_le_zpow_right₀ (by norm_num) (by omega)
    linarith
  have key : ∀ k : Fin 254, ((2 : ℝ) ^ ((k.val : ℤ) - 126) ≤ q) ↔ k.val < b := by
    intro k
    constructor
    · intro hk
      by_contra hkb
      rw [power_pos (by omega) (by omega), EReal.coe_lt_coe_iff] at hu
      have : (2 : ℝ) ^ (((b + 1 : ℕ) : ℤ) - 127) ≤ (2 : ℝ) ^ ((k.val : ℤ) - 126) := zpow_le_zpow_right₀ (by norm_num) (by omega)
      linarith
    · intro hk
      rw [power_pos (by omega) (by omega), EReal.coe_le_coe_iff] at hl
      exact le_trans (zpow_le_zpow_right₀ (by norm_num) (by omega)) hl
  simp only [key]
  rw [Finset.sum_boole]
  have : (Finset.univ.filter fun k : Fin 254 => k.val < b).card = b := by
    rw [Fin.card_filter_val_lt]; omega
  rw [this]

/-- The search's answer is zero only below the smallest normal number, and never large. -/
theorem answer_range (q : ℝ) (b : ℕ) (hb : b < 255) (hl : power b ≤ q) (hu : (q : EReal) < power (b + 1)) (hu' : q < (2 : ℝ) ^ (120 : ℤ)) :
    b < 250 ∧ ((2 : ℝ) ^ (-126 : ℤ) ≤ q → b ≠ 0) ∧ (q = 0 → b = 0) := by
  refine ⟨?_, ?_, ?_⟩
  · by_contra h
    rw [power_pos (by omega) hb, EReal.coe_le_coe_iff] at hl
    have : (2 : ℝ) ^ (120 : ℤ) ≤ (2 : ℝ) ^ ((b : ℤ) - 127) := zpow_le_zpow_right₀ (by norm_num) (by omega)
    linarith
  · rintro h rfl
    rw [power_pos (by omega) (by omega), EReal.coe_lt_coe_iff] at hu
    norm_num at h hu
    linarith
  · rintro rfl
    by_contra h
    rw [power_pos h hb, EReal.coe_le_coe_iff] at hl
    have : (0 : ℝ) < (2 : ℝ) ^ ((b : ℤ) - 127) := by positivity
    linarith

end Cert.Dora

end
-- ==== Proof.KI.Quant.lean ====
/- The row quantiser of the kernel at an index. -/
module

public import proofs.«01_k».proof.Proof.KI.Blocks
public import proofs.«01_k».proof.Proof.Expo

@[expose] public section

set_option maxRecDepth 16384

noncomputable section

namespace Cert.KernelIdeal.Gen

open Idealize.ShloMosaic Idealize.ShloMosaic.TcCoe Cert.Dora

/-- One step of the search, on all rows. -/
def probeV (q : FVec Ideal S256x1 .f32) (b : IVec S256x1 32) (s : BitVec 32) : IVec S256x1 32 :=
  select (cmpf .olt q (bitcastToFloat .f32 (shli (addi b (broadcast S256x1 s)) (broadcast S256x1 23#32)))) b (addi b (broadcast S256x1 s))

/-- A step of the search on all rows is, row by row, the step on one row. -/
theorem probeV_at (q : FVec Ideal S256x1 .f32) (b : IVec S256x1 32) (s : BitVec 32) (i : S256x1.Idx) :
    probeV q b s i = probe (q i) (b i) s := rfl

/-- The last operation of the search, on all rows. -/
def finishV (b : IVec S256x1 32) : IVec S256x1 32 :=
  select (cmpi .eq b (broadcast S256x1 0#32)) (broadcast S256x1 0#32) (subi b (broadcast S256x1 126#32))

/-- The kernel's exponents are the eight steps of the search and its last operation. -/
theorem kExpo_eq (x : Vec Ideal S256x1152 .bf16) : kExpo x = finishV (probeV (k0_pay4 x) (probeV (k0_pay4 x) (probeV (k0_pay4 x)
    (probeV (k0_pay4 x) (probeV (k0_pay4 x) (probeV (k0_pay4 x) (probeV (k0_pay4 x) (probeV (k0_pay4 x) (broadcast S256x1 0#32)
      128#32) 64#32) 32#32) 16#32) 8#32) 4#32) 2#32) 1#32) := rfl

/-- The exponent of a row is the search's answer for the row's largest magnitude over 448. -/
theorem kExpo_at (x : Vec Ideal S256x1152 .bf16) (i : S256x1.Idx) : kExpo x i = finish (search (k0_pay4 (F := Ideal) x i)) := by
  rw [kExpo_eq]
  show finish _ = _
  simp only [probeV_at]
  rfl

variable (x : Vec Ideal S256x1152 .bf16) (b : ℕ) (i : Fin 256)

/-- The kernel's inverse scale of a row is two to minus the row's exponent. -/
theorem kInv_at (hb : b < 250) (h : search (k0_pay4 (F := Ideal) x (ix2 i 0)) = BitVec.ofNat 32 b) :
    k0_pay9 (F := Ideal) (kExpo x) (ix2 i 0) = (((2 : ℝ) ^ (-expoOf b) : ℝ) : EReal) := by
  rw [← inv_val b hb, ← h, ← kExpo_at]
  rfl

/-- The kernel's scale of a row is two to the row's exponent. -/
theorem kScale_at (hb : b < 250) (h : search (k0_pay4 (F := Ideal) x (ix2 i 0)) = BitVec.ofNat 32 b) :
    kScale x (ix2 0 i) = (((2 : ℝ) ^ (expoOf b) : ℝ) : EReal) := by
  rw [← scale_val b hb, ← h, ← kExpo_at]
  pointwise [kScale, k0_pay13, k0_pay11]
  rfl

/-- The copy of the scales kept for the later points holds a row's scale in every lane. -/
theorem kScaleWide_at (hb : b < 250) (h : search (k0_pay4 (F := Ideal) x (ix2 i 0)) = BitVec.ofNat 32 b) (j : Fin 128) :
    kScaleWide x (ix2 i j) = (((2 : ℝ) ^ (expoOf b) : ℝ) : EReal) := by
  rw [← scale_val b hb, ← h, ← kExpo_at]
  pointwise [kScaleWide, k0_pay12, k0_pay11]
  rfl

/-- The kernel's code is the scaled entry, clipped to 448 either side. -/
theorem kCodes_at (hb : b < 250) (h : search (k0_pay4 (F := Ideal) x (ix2 i 0)) = BitVec.ofNat 32 b) (k : Fin 1152) :
    kCodes x (ix2 i k) = min (Ideal.ofBits .f32 0x43E00000#32) (max (Ideal.ofBits .f32 0xC3E00000#32)
      (x (ix2 i k) * (((2 : ℝ) ^ (-expoOf b) : ℝ) : EReal))) := by
  rw [← kInv_at x b i hb h]
  generalize hE : kExpo x = E
  pointwise [kCodes, k0_pay10, k0_pay3, k0_pay2, hE]

end Cert.KernelIdeal.Gen

end
-- ==== Proof.KI.Reads.lean ====
/- The blocks of the arguments at a point: which entries of the arguments they hold. -/
module

public import proofs.«01_k».proof.Proof.KI.Frame
public import Idealize.ShloMosaic.Lib.Pipeline.ValueKit

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ)

/-- The blocks' places at every point. -/
theorem idx : ∀ t : Fin cfg0.N, win0_0.index t = ![0, 0] ∧ win0_1.index t = ![0, t.val] ∧ win0_2.index t = ![0, t.val]
    ∧ win0_3.index t = ![0, 0] ∧ win0_4.index t = ![0, t.val] ∧ win0_5.index t = ![0, t.val] ∧ win0_6.index t = ![0, t.val]
    ∧ win0_7.index t = ![0, t.val] ∧ win0_8.index t = ![0, 0] ∧ win0_9.index t = ![0, 0] ∧ t.val < 18 :=
  (by decide +kernel : ∀ t : Fin grid0.N, _)

/-- Column `j` of block `t` is column `1536 t + j` of the array. -/
def col (t : Fin cfg0.N) (j : Fin 1536) : Fin 27648 := ⟨t.val * 1536 + j.val, by have := (idx t).2.2.2.2.2.2.2.2.2.2; omega⟩

variable (c : Dev nD) (t : Fin cfg0.N)

/-- The block of `x` holds the argument's rows. -/
theorem x_block (i : Fin 256) (k : Fin 1152) :
    (iblk m c 0 t : Vec Ideal S256x1152 .bf16) (ix2 i k) = m ((c : Thread nD τ).loc main_arg0) (ix3 0 i k) := by
  blk_simp [iblk]
  entry_read
  pointwise
  blk_ext [idx t]

/-- The block of codes holds the numbers of the argument's bytes, in the point's columns. -/
theorem w_block (k : Fin 1152) (j : Fin 1536) :
    (iblk m c 1 t : Vec Ideal S1152x1536 .fp8e4m3) (ix2 k j)
      = Ideal.ofBits .fp8e4m3 (m ((c : Thread nD τ).loc main_arg1) (ix2 k (col t j))) := by
  blk_simp [iblk]
  entry_read
  refine congrArg (Ideal.ofBits .fp8e4m3) (congrArg (m ((c : Thread nD τ).loc main_arg1)) ?_)
  blk_ext [idx t, col]

/-- The block of column scales holds the argument's entries, in the point's columns. -/
theorem s_block (j : Fin 1536) :
    (iblk m c 2 t : Vec Ideal S1x1536 .f32) (ix2 0 j) = m ((c : Thread nD τ).loc main_arg2) (ix1 (col t j)) := by
  blk_simp [iblk]
  entry_read
  pointwise [col]
  blk_ext [idx t]

/-- The block of the first adapter factor holds the argument, turned. -/
theorem a_block (r : Fin 16) (k : Fin 1152) :
    (iblk m c 3 t : Vec Ideal S16x1152 .bf16) (ix2 r k) = m ((c : Thread nD τ).loc main_arg3) (ix2 k r) := by
  blk_simp [iblk]
  entry_read
  pointwise
  blk_ext [idx t]

/-- The block of the second adapter factor holds the argument, in the point's columns. -/
theorem b_block (r : Fin 16) (j : Fin 1536) :
    (iblk m c 4 t : Vec Ideal S16x1536 .bf16) (ix2 r j) = m ((c : Thread nD τ).loc main_arg4) (ix2 r (col t j)) := by
  blk_ext [iblk, V, idx t, col]

/-- The block of magnitudes holds the argument's entries, in the point's columns. -/
theorem g_block (j : Fin 1536) :
    (iblk m c 5 t : Vec Ideal S1x1536 .f32) (ix2 0 j) = m ((c : Thread nD τ).loc main_arg5) (ix1 (col t j)) := by
  blk_simp [iblk]
  entry_read
  pointwise [col]
  blk_ext [idx t]

end Cert.KernelIdeal.Gen

end
-- ==== Proof.Equation.lean ====
/- The two identities over the real numbers: the norms by their expansion, and `y` with the adapter's product inside. -/
module

public import proofs.«01_k».proof.Proof.Reals

@[expose] public section

noncomputable section

namespace Cert.Dora

variable {n r : ℕ} (W : Fin n → ℝ) (S : ℝ) (A : Fin r → Fin n → ℝ) (B : Fin r → ℝ)

/-- The sum of the squares of a column of the weight and the adapter over the scale, expanded. -/
theorem expand (b : Fin r → ℝ) : ∑ k, W k * W k + 2 * ∑ p, b p * (∑ k, A p k * W k + ∑ q, 1 / 2 * (∑ k, A p k * A q k) * b q)
    = ∑ k, (W k + ∑ p, A p k * b p) * (W k + ∑ p, A p k * b p) := by
  have e1 : ∑ p, b p * ∑ k, A p k * W k = ∑ k, W k * ∑ p, A p k * b p := by
    simp only [Finset.mul_sum]
    rw [Finset.sum_comm]
    exact Finset.sum_congr rfl fun k _ => Finset.sum_congr rfl fun p _ => by ring
  have e2 : ∑ p, b p * ∑ q, 1 / 2 * (∑ k, A p k * A q k) * b q = 1 / 2 * ∑ k, (∑ p, A p k * b p) * ∑ p, A p k * b p := by
    simp only [Finset.mul_sum, Finset.sum_mul]
    rw [Finset.sum_congr rfl fun p _ => Finset.sum_comm, Finset.sum_comm]
    refine Finset.sum_congr rfl fun k _ => ?_
    rw [Finset.sum_comm]
    exact Finset.sum_congr rfl fun p _ => Finset.sum_congr rfl fun q _ => by ring
  simp only [mul_add, Finset.sum_add_distrib]
  rw [e1, e2]
  simp only [add_mul, mul_add, Finset.sum_add_distrib]
  rw [Finset.sum_congr rfl fun k _ => mul_comm (∑ p, A p k * b p) (W k)]
  ring

/-- The norms: the root of the expanded sum, not below zero, times the scale's magnitude, is the norm of the column of
    the scaled weight and the adapter. -/
theorem norm_eq (h : S ≠ 0) : Real.sqrt (max (∑ k, W k * W k
      + 2 * ∑ p, B p / S * (∑ k, A p k * W k + ∑ q, 1 / 2 * (∑ k, A p k * A q k) * (B q / S))) 0) * |S|
    = Real.sqrt (∑ k, (W k * S + ∑ p, A p k * B p) * (W k * S + ∑ p, A p k * B p)) := by
  rw [expand W A fun p => B p / S, max_eq_left (Finset.sum_nonneg fun k _ => mul_self_nonneg _), ← Real.sqrt_sq_eq_abs S,
    ← Real.sqrt_mul (Finset.sum_nonneg fun k _ => mul_self_nonneg _), Finset.sum_mul]
  congr 1
  refine Finset.sum_congr rfl fun k _ => ?_
  have e : ∑ p, A p k * B p = (∑ p, A p k * (B p / S)) * S := by
    rw [Finset.sum_mul]
    exact Finset.sum_congr rfl fun p _ => by field_simp
  rw [e]; ring

/-- `y`: the products of the codes and of the adapter over the scales, times the scales, are the products scaled. -/
theorem out_eq (P : ℝ) (T : Fin r → ℝ) (I C : ℝ) (h : S ≠ 0) (hi : I * C = 1) :
    (P + ∑ p, T p * I * (B p / S)) * C * S = P * C * S + ∑ p, T p * B p := by
  rw [add_mul, add_mul, Finset.sum_mul, Finset.sum_mul]
  congr 1
  refine Finset.sum_congr rfl fun p _ => ?_
  have : T p * I * (B p / S) * C * S = T p * (I * C) * (B p / S * S) := by ring
  rw [this, hi, div_mul_cancel₀ _ h, mul_one]

end Cert.Dora

end
-- ==== Proof.Rows.lean ====
/- The largest magnitude of a row, and the constants of the row quantiser. -/
module

public import proofs.«01_k».proof.Proof.Expo

@[expose] public section

noncomputable section

namespace Cert.Dora

open Idealize.ShloMosaic

/-- The largest magnitude of a row. -/
def rowMax {n : ℕ} (f : Fin n → EReal) : EReal :=
  Finset.fold max (Ideal.ofBits .f32 4286578688#32) (fun k => FloatOps.absf (F := Ideal) (φ := .f32) (f k)) Finset.univ

/-- One over 448, as the programs write it. -/
def c448 : ℝ := 9586981 / 2 ^ 32

/-- The pattern of one over 448. -/
theorem ofBits_c448 : Ideal.ofBits .f32 991054117#32 = (c448 : EReal) := by
  simp [Ideal.ofBits, Ideal.ieee, c448]; rw [← EReal.coe_mul]; norm_num

/-- The pattern of 126. -/
theorem ofBits_126 : Ideal.ofBits .f32 1123811328#32 = ((126 : ℝ) : EReal) := by
  simp [Ideal.ofBits, Ideal.ieee]; rw [← EReal.coe_mul]; norm_num

/-- The pattern of 448. -/
theorem ofBits_448 : Ideal.ofBits .f32 1138753536#32 = ((448 : ℝ) : EReal) := by
  simp [Ideal.ofBits, Ideal.ieee]; rw [← EReal.coe_mul]; norm_num

/-- The pattern of -448. -/
theorem ofBits_neg448 : Ideal.ofBits .f32 3286237184#32 = ((-448 : ℝ) : EReal) := by
  simp [Ideal.ofBits, Ideal.ieee]; rw [← EReal.coe_mul]; norm_num

/-- The pattern of minus infinity. -/
theorem ofBits_bot : Ideal.ofBits .f32 4286578688#32 = ⊥ := by
  simp [Ideal.ofBits, Ideal.ieee]

/-- The pattern of two. -/
theorem ofBits_two : Ideal.ofBits .f32 1073741824#32 = ((2 : ℝ) : EReal) := by
  simp [Ideal.ofBits, Ideal.ieee]; rw [← EReal.coe_mul]; norm_num

/-- The pattern of the least normal number. -/
theorem ofBits_min : Ideal.ofBits .f32 8388608#32 = (((2 : ℝ) ^ (-126 : ℤ) : ℝ) : EReal) := by
  simp [Ideal.ofBits, Ideal.ieee]; rw [← EReal.coe_mul]; norm_num

/-- The pattern of infinity. -/
theorem ofBits_inf : Ideal.ofBits .f32 2139095040#32 = ⊤ := by
  simp [Ideal.ofBits, Ideal.ieee]

/-- The bound of the rows' largest magnitudes leaves the quotient by 448 small. -/
theorem bound (a : ℝ) (h : (a : EReal) ≤ Ideal.ofBits .f32 2139029504#32) : a * c448 < (2 : ℝ) ^ (120 : ℤ) := by
  have e : Ideal.ofBits .f32 2139029504#32 = ((16711680 * (2 : ℝ) ^ (104 : ℤ) : ℝ) : EReal) := by
    simp [Ideal.ofBits, Ideal.ieee]
  rw [e, EReal.coe_le_coe_iff] at h
  have : a * c448 ≤ 16711680 * (2 : ℝ) ^ (104 : ℤ) * c448 := mul_le_mul_of_nonneg_right h (by unfold c448; positivity)
  refine lt_of_le_of_lt this ?_
  unfold c448
  norm_num

/-- Two to a whole number. -/
theorem exp2_int (n : ℤ) : Ideal.exp2 (((n : ℝ)) : EReal) = (((2 : ℝ) ^ n : ℝ) : EReal) := by
  rw [Ideal.exp2_coe]
  congr 1
  exact Real.rpow_intCast 2 n

/-- A small whole number read from its pattern. -/
theorem sitofp_small (k : ℕ) (h : k < 254) : FloatOps.sitofp (F := Ideal) .f32 (BitVec.ofNat 32 k) = ((k : ℝ) : EReal) := by
  show (((BitVec.ofNat 32 k).toInt : ℝ) : EReal) = _
  have : (BitVec.ofNat 32 k).toInt = k := by
    rw [BitVec.toInt_eq_toNat_of_lt (by rw [BitVec.toNat_ofNat]; omega), BitVec.toNat_ofNat]
    omega
  rw [this]; norm_cast

end Cert.Dora

end
-- ==== Proof.Spec.lean ====
/- The layer over the real numbers: what the four results are. -/
module

public import proofs.«01_k».proof.Proof.Rows

@[expose] public section

noncomputable section

namespace Cert.Dora

open Idealize.ShloMosaic

/-- The arguments as real numbers (the magnitudes stay as they are), and the exponents of the rows' scales. -/
structure Values where
  X : Fin 256 → Fin 1152 → ℝ
  W : Fin 1152 → Fin 27648 → ℝ
  S : Fin 27648 → ℝ
  A : Fin 1152 → Fin 16 → ℝ
  B : Fin 16 → Fin 27648 → ℝ
  G : Fin 27648 → EReal
  e : Fin 256 → ℤ

namespace Values

variable (d : Values)

/-- The scale of a row. -/
def scale (i : Fin 256) : ℝ := (2 : ℝ) ^ d.e i

/-- The codes of `x`. -/
def code (i : Fin 256) (k : Fin 1152) : ℝ := min 448 (max (-448) (d.X i k * (2 : ℝ) ^ (-d.e i)))

/-- The norm of a column of the weight and the adapter. -/
def norm (j : Fin 27648) : ℝ := Real.sqrt (∑ k, (d.W k j * d.S j + ∑ r, d.A k r * d.B r j) * (d.W k j * d.S j + ∑ r, d.A k r * d.B r j))

/-- `y`. -/
def out (i : Fin 256) (j : Fin 27648) : EReal :=
  (((∑ k, d.code i k * d.W k j) * d.scale i * d.S j + ∑ r, (∑ k, d.X i k * d.A k r) * d.B r j : ℝ) : EReal)
    * Ideal.div (d.G j) (d.norm j : EReal)

/-- The four results as arrays: `y`, -/
def outArr : (⟨2, ![256, 27648]⟩ : Shape).Idx → EReal := fun i => d.out (i 0) (i 1)

/-- the norms, -/
def normArr : (⟨2, ![1, 27648]⟩ : Shape).Idx → EReal := fun i => (d.norm (i 1) : EReal)

/-- the codes, -/
def codeArr : (⟨2, ![256, 1152]⟩ : Shape).Idx → EReal := fun i => (d.code (i 0) (i 1) : EReal)

/-- and the scales. -/
def scaleArr : (⟨2, ![1, 256]⟩ : Shape).Idx → EReal := fun i => (d.scale (i 1) : EReal)

/-- The exponent of a row's scale is that of its largest magnitude over 448, which is zero or a normal number. -/
def Row (i : Fin 256) : Prop := ∃ (a : ℝ) (b : ℕ), rowMax (fun k => (d.X i k : EReal)) = (a : EReal)
  ∧ (a = 0 ∨ (2 : ℝ) ^ (-126 : ℤ) ≤ a * c448) ∧ a * c448 < (2 : ℝ) ^ (120 : ℤ) ∧ b < 255
  ∧ power b ≤ ((a * c448 : ℝ) : EReal) ∧ ((a * c448 : ℝ) : EReal) < power (b + 1)
  ∧ search ((a * c448 : ℝ) : EReal) = BitVec.ofNat 32 b ∧ d.e i = expoOf b

/-- Every row has its exponent, and no weight scale is zero. -/
structure Good : Prop where
  row : ∀ i, d.Row i
  nonzero : ∀ j, d.S j ≠ 0

/-- A row's scale times its inverse is one. -/
theorem inv_scale (i : Fin 256) : (2 : ℝ) ^ (-d.e i) * d.scale i = 1 := by
  rw [scale, ← zpow_add₀ (by norm_num), neg_add_cancel, zpow_zero]

/-- A row's quotient has an exponent. -/
theorem row_exists (f : Fin 1152 → EReal) (a : ℝ) (hr : rowMax f = (a : EReal)) (h0 : 0 ≤ a)
    (h1 : a = 0 ∨ (2 : ℝ) ^ (-126 : ℤ) ≤ a * c448) (h2 : a * c448 < (2 : ℝ) ^ (120 : ℤ)) :
    ∃ (a : ℝ) (b : ℕ), rowMax f = (a : EReal)
      ∧ (a = 0 ∨ (2 : ℝ) ^ (-126 : ℤ) ≤ a * c448) ∧ a * c448 < (2 : ℝ) ^ (120 : ℤ) ∧ b < 255
      ∧ power b ≤ ((a * c448 : ℝ) : EReal) ∧ ((a * c448 : ℝ) : EReal) < power (b + 1)
      ∧ search ((a * c448 : ℝ) : EReal) = BitVec.ofNat 32 b := by
  obtain ⟨b, e, hb, hl, hu⟩ := search_spec (a * c448) (mul_nonneg h0 (by unfold c448; positivity))
  exact ⟨a, b, hr, h1, h2, hb, hl, hu, e⟩

end Values

end Cert.Dora

end
-- ==== Proof.KI.Value.lean ====
/- The kernel's four result arrays. -/
module

public import proofs.«01_k».proof.Proof.KI.Norm
public import proofs.«01_k».proof.Proof.KI.Out
public import proofs.«01_k».proof.Proof.KI.Quant
public import proofs.«01_k».proof.Proof.KI.Reads
public import proofs.«01_k».proof.Proof.Equation
public import proofs.«01_k».proof.Proof.Spec

@[expose] public section

set_option maxRecDepth 16384

noncomputable section

namespace Cert.KernelIdeal.Gen

open Idealize.ShloMosaic Idealize.ShloMosaic.TcCoe Idealize.SL.Sem Cert.Dora
open Idealize.ShloMosaic.Pipeline (Dat)

variable (m : (ℓ : Loc nD τ sig) → Buf (Elt Ideal) ℓ) (d : Values) (c : Dev nD)

/-- The memory's arguments are the values. -/
structure Reads : Prop where
  x : ∀ i k, m ((c : Thread nD τ).loc main_arg0) (ix3 0 i k) = (d.X i k : EReal)
  w : ∀ k j, Ideal.ofBits .fp8e4m3 (m ((c : Thread nD τ).loc main_arg1) (ix2 k j)) = (d.W k j : EReal)
  s : ∀ j, m ((c : Thread nD τ).loc main_arg2) (ix1 j) = (d.S j : EReal)
  a : ∀ k r, m ((c : Thread nD τ).loc main_arg3) (ix2 k r) = (d.A k r : EReal)
  b : ∀ r j, m ((c : Thread nD τ).loc main_arg4) (ix2 r j) = (d.B r j : EReal)
  g : ∀ j, m ((c : Thread nD τ).loc main_arg5) (ix1 j) = d.G j

/-- Reading the first 1024 rows of the codes gives those rows. -/
theorem ld_main (w : Vec Ideal S1152x1536 .fp8e4m3) (k : Fin 1024) (j : Fin 1536) :
    View.ld w (Rect.unit (s := S1152x1536) ![0, 0] ![1024, 1536] inb_S1152x1536_S1024x1536_0_0) (ix2 k j) = w (ix2 ⟨k.val, by omega⟩ j) :=
  congrArg w (by blk_ext [Rect.idx_unit_val])

/-- Reading the last 128 rows of the codes gives those rows. -/
theorem ld_tail (w : Vec Ideal S1152x1536 .fp8e4m3) (k : Fin 128) (j : Fin 1536) :
    View.ld w (Rect.unit (s := S1152x1536) ![1024, 0] ![128, 1536] inb_S1152x1536_S128x1536_1024_0) (ix2 k j)
      = w (ix2 ⟨1024 + k.val, by omega⟩ j) :=
  congrArg w (by blk_ext [Rect.idx_unit_val])

/-- Reading the first 1024 columns of the adapter factor gives those columns. -/
theorem ld_adapter (a : Vec Ideal S16x1152 .bf16) (r : Fin 16) (k : Fin 1024) :
    View.ld a (Rect.unit (s := S16x1152) ![0, 0] ![16, 1024] inb_S16x1152_S16x1024_0_0) (ix2 r k) = a (ix2 r ⟨k.val, by omega⟩) :=
  congrArg a (by blk_ext [Rect.idx_unit_val])

/-- Reading the first 1024 columns of the quantised rows gives those columns. -/
theorem ld_codes (q : Vec Ideal S256x1152 .fp8e4m3) (i : Fin 256) (k : Fin 1024) :
    View.ld q (Rect.unit (s := S256x1152) ![0, 0] ![256, 1024] inb_S256x1152_S256x1024_0_0) (ix2 i k) = q (ix2 i ⟨k.val, by omega⟩) :=
  congrArg q (by blk_ext [Rect.idx_unit_val])

variable {m d c} (hr : Reads m d c) (hd : d.Good)
include hr hd

/-- The search on a row of the first block finds the row's exponent. -/
theorem search_row (t : Fin cfg0.N) (i : Fin 256) : ∃ b : ℕ, b < 250
    ∧ search (k0_pay4 (F := Ideal) (iblk m c 0 t) (ix2 i 0)) = BitVec.ofNat 32 b ∧ d.e i = expoOf b := by
  obtain ⟨a, b, ha, h1, h2, hb, hl, hu, hs, he⟩ := hd.row i
  refine ⟨b, (answer_range _ b hb hl hu h2).1, ?_, he⟩
  rw [← hs]
  refine congrArg search ?_
  have e : k0_pay4 (F := Ideal) (iblk m c 0 t) (ix2 i 0) = rowMax (fun k => (iblk m c 0 t : Vec Ideal S256x1152 .bf16) (ix2 i k)) * Ideal.ofBits .f32 991054117#32 := by
    pointwise [k0_pay4, k0_pay3, k0_pay2, rowMax]
  rw [e]
  simp only [x_block, hr.x]
  rw [ha, ofBits_c448, EReal.coe_mul]

/-- The codes of the first block, -/
theorem codes_block (t : Fin cfg0.N) (i : Fin 256) (k : Fin 1152) : kCodes (iblk m c 0 t) (ix2 i k) = (d.code i k : EReal) := by
  obtain ⟨b, hb, h, he⟩ := search_row hr hd t i
  rw [kCodes_at _ b i hb h k, x_block, hr.x, ← he, ofBits_448, ofBits_neg448, ← EReal.coe_mul, coe_max, coe_min]
  rfl

/-- the reciprocals of its scales, -/
theorem inv_block (t : Fin cfg0.N) (i : Fin 256) :
    k0_pay9 (F := Ideal) (kExpo (iblk m c 0 t)) (ix2 i 0) = (((2 : ℝ) ^ (-d.e i) : ℝ) : EReal) := by
  obtain ⟨b, hb, h, he⟩ := search_row hr hd t i
  rw [kInv_at _ b i hb h, ← he]

/-- its scales, -/
theorem scale_block (t : Fin cfg0.N) (i : Fin 256) : kScale (iblk m c 0 t) (ix2 0 i) = (d.scale i : EReal) := by
  obtain ⟨b, hb, h, he⟩ := search_row hr hd t i
  rw [kScale_at _ b i hb h, ← he]; rfl

/-- and the same, copied. -/
theorem scaleWide_block (t : Fin cfg0.N) (i : Fin 256) (l : Fin 128) : kScaleWide (iblk m c 0 t) (ix2 i l) = (d.scale i : EReal) := by
  obtain ⟨b, hb, h, he⟩ := search_row hr hd t i
  rw [kScaleWide_at _ b i hb h l, ← he]; rfl

/-- Point `t` leaves the norms of its columns. -/
theorem norm_block (t : Fin cfg0.N) (j : Fin 1536) : out_7 m c t (ix2 0 j) = (d.norm (col t j) : EReal) := by
  have hw : ∀ k j, (iblk m c 1 t : Vec Ideal S1152x1536 .fp8e4m3) (ix2 k j) = (d.W k (col t j) : EReal) := fun k j => by rw [w_block, hr.w]
  have hs : ∀ j, (iblk m c 2 t : Vec Ideal S1x1536 .f32) (ix2 0 j) = (d.S (col t j) : EReal) := fun j => by rw [s_block, hr.s]
  have ha : ∀ t r k, (iblk m c 3 t : Vec Ideal S16x1152 .bf16) (ix2 r k) = (d.A k r : EReal) := fun t r k => by rw [a_block, hr.a]
  have hb : ∀ r j, (iblk m c 4 t : Vec Ideal S16x1536 .bf16) (ix2 r j) = (d.B r (col t j) : EReal) := fun r j => by rw [b_block, hr.b]
  rw [out_7_eq, kNorm_at]
  rw [cross_at (fun k j => d.W k (col t j)) (fun j => d.S (col t j)) (fun r k => d.A k r) (fun r j => d.B r (col t j)) _ _ _ _ _ _
    (fun k j => by rw [ld_main, hw]) (fun k j => by rw [ld_tail, hw]) (fun r k => by rw [ld_adapter, ha]) hs (ha t0) hb j (hd.nonzero _)]
  simp only [hw, hs, ofBits_two, ← EReal.coe_mul, coe_sum, ← EReal.coe_add]
  rw [← EReal.coe_zero, coe_max, coe_sqrt _ (le_max_right _ _)]
  have habs : FloatOps.absf (F := Ideal) (φ := .f32) ((d.S (col t j) : ℝ) : EReal) = ((|d.S (col t j)| : ℝ) : EReal) := by
    show max ((d.S (col t j) : ℝ) : EReal) (-((d.S (col t j) : ℝ) : EReal)) = _
    rw [← EReal.coe_neg, coe_max]
    rfl
  rw [habs, ← EReal.coe_mul, norm_eq (fun k => d.W k (col t j)) (d.S (col t j)) (fun r k => d.A k r) (fun r => d.B r (col t j)) (hd.nonzero _)]
  rfl

/-- Point `t` leaves its columns of `y`. -/
theorem out_block (t : Fin cfg0.N) (i : Fin 256) (j : Fin 1536) : out_6 m c t (ix2 i j) = d.out i (col t j) := by
  have hw : ∀ k j, (iblk m c 1 t : Vec Ideal S1152x1536 .fp8e4m3) (ix2 k j) = (d.W k (col t j) : EReal) := fun k j => by rw [w_block, hr.w]
  have hs : ∀ j, (iblk m c 2 t : Vec Ideal S1x1536 .f32) (ix2 0 j) = (d.S (col t j) : EReal) := fun j => by rw [s_block, hr.s]
  have ha : ∀ t r k, (iblk m c 3 t : Vec Ideal S16x1152 .bf16) (ix2 r k) = (d.A k r : EReal) := fun t r k => by rw [a_block, hr.a]
  have hb : ∀ r j, (iblk m c 4 t : Vec Ideal S16x1536 .bf16) (ix2 r j) = (d.B r (col t j) : EReal) := fun r j => by rw [b_block, hr.b]
  rw [out_6_eq, kOut, pay1_at (fun k j => d.W k (col t j)) (fun j => d.S (col t j)) (fun r k => d.A k r) (fun r j => d.B r (col t j)) d.X d.code
    (fun i => (2 : ℝ) ^ (-d.e i)) d.scale _ _ _ _ _ _ _ _ _ _
    (fun k j => by rw [ld_main, hw]) (fun k j => by rw [ld_tail, hw]) (fun i k => by rw [ld_codes, codes_block hr hd]) hs hb
    (fun i k => by rw [x_block, hr.x]) (ha t0) (codes_block hr hd t0) (inv_block hr hd t0) (scaleWide_block hr hd t0) i j (hd.nonzero _)]
  rw [norm_block hr hd t j, g_block, hr.g, ← mul_assoc, ← EReal.coe_mul,
    out_eq (d.S (col t j)) (fun r => d.B r (col t j)) _ (fun r => ∑ k, d.X i k * d.A k r) _ _ (hd.nonzero _) (d.inv_scale i)]
  rfl

omit hr hd in
/-- Where the columns of a point lie in the array of the norms, -/
theorem emb_7 (t : Fin cfg0.N) (j : Fin 1536) : (win0_7.blk t).view.emb (ix2 0 j) = ix2 0 (col t j) := by
  blk_ext [idx t, col]

omit hr hd in
/-- and in `y`. -/
theorem emb_6 (t : Fin cfg0.N) (i : Fin 256) (j : Fin 1536) : (win0_6.blk t).view.emb (ix2 i j) = ix2 i (col t j) := by
  blk_ext [idx t, col]

/-- The array of the norms, -/
theorem final_7 : (dats m 0 c).arrAt 7 (cfgs 0).N = d.normArr := by
  refine (dats m 0 c).arrAt_eq_of_covers 7 _ (by decide +kernel) fun t hf y => ?_
  blk_simp
  rw [after0_7]
  obtain ⟨j, rfl⟩ : ∃ j : Fin 1536, y = (ix2 0 j : S1x1536.Idx) := ⟨y 1, by blk_ext⟩
  exact (norm_block hr hd t j).trans (congrArg d.normArr (emb_7 t j).symm)

/-- `y`, -/
theorem final_6 : (dats m 0 c).arrAt 6 (cfgs 0).N = d.outArr := by
  refine (dats m 0 c).arrAt_eq_of_covers 6 _ (by decide +kernel) fun t hf y => ?_
  blk_simp
  rw [after0_6]
  obtain ⟨i, j, rfl⟩ : ∃ (i : Fin 256) (j : Fin 1536), y = (ix2 i j : S256x1536.Idx) := ⟨y 0, y 1, by blk_ext⟩
  refine (out_block hr hd t i j).trans ?_
  rw [emb_6 t i j]
  rfl

/-- The last point of the grid. -/
def tLast : Fin cfg0.N := ⟨17, by decide⟩

/-- the codes, -/
theorem final_8 : (dats m 0 c).arrAt 8 (cfgs 0).N = d.codeArr := by
  refine (dats m 0 c).arrAt_eq_of_after_last 8 tLast (by decide +kernel) _ fun j => ?_
  blk_simp
  rw [after0_8, outA_8_eq]
  have e : j = (ix2 (j 0) (j 1) : S256x1152.Idx) := by blk_ext
  exact (congrArg (kCodes (iblk m c 0 t0)) e).trans (codes_block hr hd t0 (j 0) (j 1))

/-- and the scales. -/
theorem final_9 : (dats m 0 c).arrAt 9 (cfgs 0).N = d.scaleArr := by
  refine (dats m 0 c).arrAt_eq_of_after_last 9 tLast (by decide +kernel) _ fun j => ?_
  blk_simp
  rw [after0_9, outA_9_eq]
  have e : j = (ix2 0 (j 1) : S1x256.Idx) := by blk_ext
  exact (congrArg (kScale (iblk m c 0 t0)) e).trans (scale_block hr hd t0 (j 1))

end Cert.KernelIdeal.Gen

end
-- ==== Proof.RI.Payloads.lean ====
/- The reference's norms and its `y` at an index. -/
module

public import proofs.«01_k».proof.Proof.Gen.ReferenceIdeal.Value
public import Idealize.ShloMosaic.Lib.Pointwise

@[expose] public section

set_option maxRecDepth 16384

noncomputable section

namespace Cert.ReferenceIdeal.Gen

open Idealize.ShloMosaic Idealize.ShloMosaic.TcCoe

/-- The norm of a column: the root of the sum of the squares of the scaled weight and the adapter. -/
theorem norm_at (s : FVec Ideal S1x27648 .f32) (a : Vec Ideal S1152x16 .bf16) (b : Vec Ideal S16x27648 .bf16)
    (w : Vec Ideal S1152x27648 .fp8e4m3) (j : Fin 27648) :
    k0_pay1 (F := Ideal) s a b w (ix2 0 j) = Ideal.sqrt (∑ k : Fin 1152,
      (w (ix2 k j) * s (ix2 0 j) + ∑ r : Fin 16, a (ix2 k r) * b (ix2 r j))
        * (w (ix2 k j) * s (ix2 0 j) + ∑ r : Fin 16, a (ix2 k r) * b (ix2 r j))) := by
  pointwise [k0_pay1]

/-- `y`: the codes' product scaled and the adapter's, times the magnitude over the norm. -/
theorem out_at (x : FVec Ideal S256x1152 .bf16) (c : FVec Ideal S256x1 .f32) (q : FVec Ideal S256x1152 .fp8e4m3)
    (s : FVec Ideal S1x27648 .f32) (a : Vec Ideal S1152x16 .bf16) (b : Vec Ideal S16x27648 .bf16)
    (w w' : Vec Ideal S1152x27648 .fp8e4m3) (g : Vec Ideal S1x27648 .f32) (i : Fin 256) (j : Fin 27648) :
    k0_pay2 (F := Ideal) x c q s a b w w' g (ix2 i j)
      = ((∑ k : Fin 1152, q (ix2 i k) * w' (ix2 k j)) * c (ix2 i 0) * s (ix2 0 j)
          + ∑ r : Fin 16, (∑ k : Fin 1152, x (ix2 i k) * a (ix2 k r)) * b (ix2 r j))
        * Ideal.div (g (ix2 0 j)) (k0_pay1 (F := Ideal) s a b w (ix2 0 j)) := by
  generalize h : k0_pay1 (F := Ideal) s a b w = e
  pointwise [k0_pay2, h]

end Cert.ReferenceIdeal.Gen

end
-- ==== Proof.RI.Quant.lean ====
/- The row quantiser of the reference at an index. -/
module

public import proofs.«01_k».proof.Proof.Gen.ReferenceIdeal.Value
public import proofs.«01_k».proof.Proof.Rows

@[expose] public section

set_option maxRecDepth 16384

noncomputable section

namespace Cert.ReferenceIdeal.Gen

open Idealize.ShloMosaic Idealize.ShloMosaic.TcCoe Cert.Dora

variable (x : Vec Ideal S256x1152 .bf16) (i : Fin 256)

/-- The exponent: none for a row of zeros, else the number of powers of two not above the quotient by 448, less 126. -/
theorem expo_form : k0_pay6 (F := Ideal) x (ix2 i 0) = if rowMax (fun k => x (ix2 i k)) = 0 then 0 else
    (∑ k : Fin 254, if Ideal.exp2 (FloatOps.sitofp (F := Ideal) .f32 (BitVec.ofNat 32 k.val) - Ideal.ofBits .f32 1123811328#32)
      ≤ rowMax (fun k => x (ix2 i k)) * Ideal.ofBits .f32 991054117#32 then (1 : EReal) else 0) - Ideal.ofBits .f32 1123811328#32 := by
  pointwise [k0_pay6, k0_pay5, k0_pay4, rowMax]
  rfl

/-- The count of the powers of two up to the quotient gives the row's exponent. -/
theorem expo_at (a : ℝ) (b : ℕ) (hr : rowMax (fun k => x (ix2 i k)) = (a : EReal)) (hb : b < 255) (hl : power b ≤ ((a * c448 : ℝ) : EReal))
    (hu : ((a * c448 : ℝ) : EReal) < power (b + 1)) (hu' : a * c448 < (2 : ℝ) ^ (120 : ℤ))
    (h0 : a = 0 ∨ (2 : ℝ) ^ (-126 : ℤ) ≤ a * c448) : k0_pay6 (F := Ideal) x (ix2 i 0) = (((expoOf b : ℤ) : ℝ) : EReal) := by
  obtain ⟨hb5, hn, hz⟩ := answer_range _ b hb hl hu hu'
  rw [expo_form, hr]
  by_cases ha : a = 0
  · rw [if_pos (by rw [ha]; rfl), hz (by rw [ha, zero_mul])]
    simp [expoOf]
  · have hb0 := hn (h0.resolve_left ha)
    rw [if_neg (by rw [← EReal.coe_zero]; exact fun h => ha (EReal.coe_injective h))]
    have e : ∀ k : Fin 254, (if Ideal.exp2 (FloatOps.sitofp (F := Ideal) .f32 (BitVec.ofNat 32 k.val) - Ideal.ofBits .f32 1123811328#32)
        ≤ (a : EReal) * Ideal.ofBits .f32 991054117#32 then (1 : EReal) else 0)
        = (((if (2 : ℝ) ^ ((k.val : ℤ) - 126) ≤ a * c448 then (1 : ℝ) else 0) : ℝ) : EReal) := by
      intro k
      have h : Ideal.exp2 (FloatOps.sitofp (F := Ideal) .f32 (BitVec.ofNat 32 k.val) - Ideal.ofBits .f32 1123811328#32)
          ≤ (a : EReal) * Ideal.ofBits .f32 991054117#32 ↔ (2 : ℝ) ^ ((k.val : ℤ) - 126) ≤ a * c448 := by
        rw [sitofp_small k.val k.isLt, ofBits_126, ofBits_c448, ← EReal.coe_sub,
          show ((k.val : ℝ) - 126) = (((k.val : ℤ) - 126 : ℤ) : ℝ) by push_cast; ring, exp2_int, ← EReal.coe_mul, EReal.coe_le_coe_iff]
      by_cases hk : (2 : ℝ) ^ ((k.val : ℤ) - 126) ≤ a * c448
      · rw [if_pos hk, if_pos (h.mpr hk), EReal.coe_one]
      · rw [if_neg hk, if_neg (fun h' => hk (h.mp h')), EReal.coe_zero]
    rw [Finset.sum_congr rfl fun k _ => e k, coe_sum, count_spec _ b hb hl hu hu', ofBits_126, ← EReal.coe_sub]
    congr 1
    rw [expoOf, if_neg hb0]; push_cast; ring

/-- The scale of a row, -/
theorem scale_at (e : ℤ) (h : k0_pay6 (F := Ideal) x (ix2 i 0) = ((e : ℝ) : EReal)) :
    k0_pay7 (F := Ideal) x (ix2 i 0) = (((2 : ℝ) ^ e : ℝ) : EReal) := by
  rw [← exp2_int, ← h]
  generalize hv : k0_pay6 (F := Ideal) x = v
  pointwise [k0_pay7, hv]
  rfl

/-- the same as the result holds it, -/
theorem scale_row (e : ℤ) (h : k0_pay6 (F := Ideal) x (ix2 i 0) = ((e : ℝ) : EReal)) :
    k0_pay3 (k0_pay7 (F := Ideal) x) (ix2 0 i) = (((2 : ℝ) ^ e : ℝ) : EReal) := by
  rw [← scale_at x i e h]
  generalize k0_pay7 (F := Ideal) x = v
  pointwise [k0_pay3]

/-- and its codes. -/
theorem codes_at (e : ℤ) (h : k0_pay6 (F := Ideal) x (ix2 i 0) = ((e : ℝ) : EReal)) (k : Fin 1152) :
    k0_pay8 (F := Ideal) x (ix2 i k) = min (Ideal.ofBits .f32 0x43E00000#32) (max (Ideal.ofBits .f32 0xC3E00000#32)
      (x (ix2 i k) * (((2 : ℝ) ^ (-e) : ℝ) : EReal))) := by
  have he : (((2 : ℝ) ^ (-e) : ℝ) : EReal) = Ideal.exp2 (0 - k0_pay6 (F := Ideal) x (ix2 i 0)) := by
    rw [h, ← exp2_int, ← EReal.coe_zero, ← EReal.coe_sub]; push_cast; rw [zero_sub]
  rw [he]
  generalize hv : k0_pay6 (F := Ideal) x = v
  pointwise [k0_pay8, k0_pay5, k0_pay4, hv]
  rfl

end Cert.ReferenceIdeal.Gen

end
-- ==== Proof.RI.Value.lean ====
/- The Reference's four result arrays. -/
module

public import proofs.«01_k».proof.Proof.RI.Payloads
public import proofs.«01_k».proof.Proof.RI.Quant
public import proofs.«01_k».proof.Proof.Spec
public import Idealize.ShloMosaic.Lib.Pipeline.ValueKit

@[expose] public section

set_option maxRecDepth 16384

noncomputable section

namespace Cert.ReferenceIdeal.Gen

open Idealize.ShloMosaic Idealize.ShloMosaic.TcCoe Idealize.SL.Sem Cert.Dora
open Idealize.ShloMosaic.Pipeline (Dat)

variable (m : (ℓ : Loc nD τ sig) → Buf (Elt Ideal) ℓ) (d : Values) (c : Dev nD)

/-- The memory's arguments are the values. -/
structure Reads : Prop where
  x : ∀ i k, m ((c : Thread nD τ).loc main_arg0) (ix3 0 i k) = (d.X i k : EReal)
  w : ∀ k j, Ideal.ofBits .fp8e4m3 (m ((c : Thread nD τ).loc main_arg1) (ix2 k j)) = (d.W k j : EReal)
  s : ∀ j, m ((c : Thread nD τ).loc main_arg2) (ix1 j) = (d.S j : EReal)
  a : ∀ k r, m ((c : Thread nD τ).loc main_arg3) (ix2 k r) = (d.A k r : EReal)
  b : ∀ r j, m ((c : Thread nD τ).loc main_arg4) (ix2 r j) = (d.B r j : EReal)
  g : ∀ j, m ((c : Thread nD τ).loc main_arg5) (ix1 j) = d.G j

/-- The blocks' places at the one point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

variable (t : Fin cfg0.N)

/-- The first operand is the argument `x`, its rows laid out flat. -/
theorem x_block (i : Fin 256) (k : Fin 1152) :
    (iblk m c 0 t : Vec Ideal S256x1152 .bf16) (ix2 i k) = m ((c : Thread nD τ).loc main_arg0) (ix3 0 i k) := by
  blk_simp [iblk]
  entry_read
  pointwise
  blk_ext [idx t]

/-- The second operand holds the numbers of the argument's bytes. -/
theorem w_block (k : Fin 1152) (j : Fin 27648) :
    (iblk m c 1 t : Vec Ideal S1152x27648 .fp8e4m3) (ix2 k j)
      = Ideal.ofBits .fp8e4m3 (m ((c : Thread nD τ).loc main_arg1) (ix2 k j)) := by
  blk_simp [iblk]
  entry_read
  refine congrArg (Ideal.ofBits .fp8e4m3) (congrArg (m ((c : Thread nD τ).loc main_arg1)) ?_)
  blk_ext [idx t]

/-- The third operand is the argument's column scales. -/
theorem s_block (j : Fin 27648) :
    (iblk m c 2 t : Vec Ideal S1x27648 .f32) (ix2 0 j) = m ((c : Thread nD τ).loc main_arg2) (ix1 j) := by
  blk_simp [iblk]
  entry_read
  pointwise
  blk_ext [idx t]

/-- The fourth operand is the first adapter factor. -/
theorem a_block (k : Fin 1152) (r : Fin 16) :
    (iblk m c 3 t : Vec Ideal S1152x16 .bf16) (ix2 k r) = m ((c : Thread nD τ).loc main_arg3) (ix2 k r) := by
  blk_ext [iblk, V, idx t]

/-- The fifth operand is the second adapter factor. -/
theorem b_block (r : Fin 16) (j : Fin 27648) :
    (iblk m c 4 t : Vec Ideal S16x27648 .bf16) (ix2 r j) = m ((c : Thread nD τ).loc main_arg4) (ix2 r j) := by
  blk_ext [iblk, V, idx t]

/-- The sixth operand is the magnitudes. -/
theorem g_block (j : Fin 27648) :
    (iblk m c 5 t : Vec Ideal S1x27648 .f32) (ix2 0 j) = m ((c : Thread nD τ).loc main_arg5) (ix1 j) := by
  blk_simp [iblk]
  entry_read
  pointwise
  blk_ext [idx t]

/-- What the body stores as result 2. -/
theorem after_8 : (dats m 0 c).after 8 t = k0_pay8 (iblk m c 0 t) := by
  rw [after0_8, out0_8, k0_pay11]
  frame_out

/-- What the body stores as result 3. -/
theorem after_9 : (dats m 0 c).after 9 t = k0_pay3 (k0_pay7 (iblk m c 0 t)) := by
  rw [after0_9, out0_9, k0_pay10]
  frame_out

/-- What the body stores as result 1. -/
theorem after_7 : (dats m 0 c).after 7 t = k0_pay1 (k0_pay9 (iblk m c 2 t)) (iblk m c 3 t) (iblk m c 4 t) (iblk m c 1 t) := by
  rw [after0_7, out0_7, k0_pay12]
  frame_out

/-- What the body stores as result 0. -/
theorem after_6 : (dats m 0 c).after 6 t = k0_pay2 (k0_pay4 (iblk m c 0 t)) (k0_pay7 (iblk m c 0 t)) (k0_pay8 (iblk m c 0 t))
    (k0_pay9 (iblk m c 2 t)) (iblk m c 3 t) (iblk m c 4 t) (iblk m c 1 t) (iblk m c 1 t) (iblk m c 5 t) := by
  rw [after0_6, out0_6, k0_pay10, k0_pay11, k0_pay12]
  frame_out

/-- Widening `x` changes no entry. -/
theorem pay4_eq (x : Vec Ideal S256x1152 .bf16) (i : Fin 256) (k : Fin 1152) : k0_pay4 x (ix2 i k) = x (ix2 i k) := by
  pointwise [k0_pay4]

/-- Reading the column scales changes no entry. -/
theorem pay9_eq (s : Vec Ideal S1x27648 .f32) (j : Fin 27648) : k0_pay9 s (ix2 0 j) = s (ix2 0 j) := by
  pointwise [k0_pay9]

variable {m d c} (hr : Reads m d c) (hd : d.Good)
include hr hd

/-- The exponent of a row's scale. -/
theorem expo_row (i : Fin 256) : k0_pay6 (iblk m c 0 t) (ix2 i 0) = ((d.e i : ℝ) : EReal) := by
  obtain ⟨a, b, ha, h1, h2, hb, hl, hu, hs, he⟩ := hd.row i
  rw [he]
  refine expo_at _ i a b ?_ hb hl hu h2 h1
  simp only [x_block, hr.x]
  exact ha

/-- The codes, -/
theorem codes_block (i : Fin 256) (k : Fin 1152) : k0_pay8 (iblk m c 0 t) (ix2 i k) = (d.code i k : EReal) := by
  rw [codes_at _ i _ (expo_row t hr hd i), x_block, hr.x, ofBits_448, ofBits_neg448, ← EReal.coe_mul, coe_max, coe_min]
  rfl

/-- the scales, -/
theorem scale_block (i : Fin 256) : k0_pay7 (iblk m c 0 t) (ix2 i 0) = (d.scale i : EReal) :=
  scale_at _ i _ (expo_row t hr hd i)

/-- the same as a row, -/
theorem scale_line (i : Fin 256) : k0_pay3 (k0_pay7 (iblk m c 0 t)) (ix2 0 i) = (d.scale i : EReal) :=
  scale_row _ i _ (expo_row t hr hd i)

/-- the norms, -/
theorem norm_block (j : Fin 27648) :
    k0_pay1 (k0_pay9 (iblk m c 2 t)) (iblk m c 3 t) (iblk m c 4 t) (iblk m c 1 t) (ix2 0 j) = (d.norm j : EReal) := by
  rw [norm_at]
  simp only [pay9_eq, s_block, a_block, b_block, w_block, hr.s, hr.a, hr.b, hr.w, ← EReal.coe_mul, coe_sum, ← EReal.coe_add]
  rw [coe_sqrt _ (Finset.sum_nonneg fun k _ => mul_self_nonneg _)]
  rfl

/-- and `y`. -/
theorem out_block (i : Fin 256) (j : Fin 27648) :
    k0_pay2 (k0_pay4 (iblk m c 0 t)) (k0_pay7 (iblk m c 0 t)) (k0_pay8 (iblk m c 0 t))
      (k0_pay9 (iblk m c 2 t)) (iblk m c 3 t) (iblk m c 4 t) (iblk m c 1 t) (iblk m c 1 t) (iblk m c 5 t) (ix2 i j) = d.out i j := by
  rw [out_at, norm_block t hr hd, scale_block t hr hd, g_block, hr.g]
  simp only [codes_block t hr hd, pay4_eq, pay9_eq, x_block, s_block, a_block, b_block, w_block, hr.x, hr.s, hr.a, hr.b, hr.w,
    ← EReal.coe_mul, coe_sum, ← EReal.coe_add]
  rfl

/-- Result 0 is the layer's output. -/
theorem final_6 : (dats m 0 c).arrAt 6 (cfgs 0).N = d.outArr := by
  refine (dats m 0 c).arrAt_eq_of_after_last 6 t0_0 (by decide +kernel) _ fun j => ?_
  blk_simp
  rw [after_6]
  have e : j = (ix2 (j 0) (j 1) : S256x27648.Idx) := by blk_ext
  exact (congrArg (k0_pay2 _ _ _ _ _ _ _ _ _) e).trans (out_block t0_0 hr hd (j 0) (j 1))

/-- Result 1 is the column norms. -/
theorem final_7 : (dats m 0 c).arrAt 7 (cfgs 0).N = d.normArr := by
  refine (dats m 0 c).arrAt_eq_of_after_last 7 t0_0 (by decide +kernel) _ fun j => ?_
  blk_simp
  rw [after_7]
  have e : j = (ix2 0 (j 1) : S1x27648.Idx) := by blk_ext
  exact (congrArg (k0_pay1 _ _ _ _) e).trans (norm_block t0_0 hr hd (j 1))

/-- Result 2 is the codes. -/
theorem final_8 : (dats m 0 c).arrAt 8 (cfgs 0).N = d.codeArr := by
  refine (dats m 0 c).arrAt_eq_of_after_last 8 t0_0 (by decide +kernel) _ fun j => ?_
  blk_simp
  rw [after_8]
  have e : j = (ix2 (j 0) (j 1) : S256x1152.Idx) := by blk_ext
  exact (congrArg (k0_pay8 _) e).trans (codes_block t0_0 hr hd (j 0) (j 1))

/-- Result 3 is the row scales. -/
theorem final_9 : (dats m 0 c).arrAt 9 (cfgs 0).N = d.scaleArr := by
  refine (dats m 0 c).arrAt_eq_of_after_last 9 t0_0 (by decide +kernel) _ fun j => ?_
  blk_simp
  rw [after_9]
  have e : j = (ix2 0 (j 1) : S1x256.Idx) := by blk_ext
  exact (congrArg (k0_pay3 _) e).trans (scale_line t0_0 hr hd (j 1))

end Cert.ReferenceIdeal.Gen

end
-- ==== Proof.Pre.lean ====
/- What the precondition says of the arguments, and the values it makes of them. -/
module

public import proofs.«01_k».proof.Pre_inputs_tame
public import proofs.«01_k».proof.Proof.Spec
public import Idealize.ShloMosaic.Lib.ReduceAll
public import Idealize.ShloMosaic.Lib.Pointwise

@[expose] public section

set_option maxRecDepth 16384

noncomputable section

namespace Cert.Dora

open Idealize.ShloMosaic Cert.Pre_inputs_tame

/-- The facts the precondition's operations take. -/
theorem preFacts : Cert.Pre_inputs_tame.Facts where
  bitsLt_bf16_f32 := by decide
  reducesTo_S1x256x1152_S1x256_d2 := by decide
  h_S_ := by decide
  bcast_S_S1x256 := by decide
  natLt_8_32 := by decide
  reducesTo_S1x256_S_d0_1 := by decide
  bcast_S_S1152x27648 := by decide
  reducesTo_S1152x27648_S_d0_1 := by decide
  bcast_S_S27648 := by decide
  reducesTo_S27648_S_d0 := by decide
  bcast_S_S1152x16 := by decide
  reducesTo_S1152x16_S_d0_1 := by decide
  bcast_S_S16x27648 := by decide
  reducesTo_S16x27648_S_d0_1 := by decide

variable (x : FVec Ideal S1x256x1152 .bf16) (w : IVec S1152x27648 8) (s : FVec Ideal S27648 .f32)
  (a : FVec Ideal S1152x16 .bf16) (b : FVec Ideal S16x27648 .bf16) (g : FVec Ideal S27648 .f32)

/-- The precondition, entry by entry. -/
structure Tame : Prop where
  top : ∀ i : Fin 256, rowMax (fun k : Fin 1152 => x (ix3 0 i k)) ≤ Ideal.ofBits .f32 2139029504#32
  low : ∀ i : Fin 256, rowMax (fun k : Fin 1152 => x (ix3 0 i k)) = 0
    ∨ Ideal.ofBits .f32 8388608#32 ≤ rowMax (fun k : Fin 1152 => x (ix3 0 i k)) * Ideal.ofBits .f32 991054117#32
  code : ∀ (k : Fin 1152) (j : Fin 27648), w (ix2 k j) ≠ 127#8 ∧ w (ix2 k j) ≠ 255#8
  scale : ∀ j : Fin 27648, 0 < FloatOps.absf (F := Ideal) (φ := .f32) (s (ix1 j)) ∧ FloatOps.absf (F := Ideal) (φ := .f32) (s (ix1 j)) < ⊤
  left : ∀ (k : Fin 1152) (r : Fin 16), FloatOps.absf (F := Ideal) (φ := .f32) (a (ix2 k r)) < ⊤
  right : ∀ (r : Fin 16) (j : Fin 27648), FloatOps.absf (F := Ideal) (φ := .f32) (b (ix2 r j)) < ⊤

/-- A truth value that reads as one is true. -/
theorem ofBool_one (p : Prop) [Decidable p] (h : BitVec.ofBool (decide p) = 1#1) : p := by
  by_contra hp
  simp [hp] at h

/-- The byte's word differs from a number's word. -/
theorem word_ne (v : BitVec 8) (h1 : v.signExtend 32 ≠ 127#32) (h2 : v.signExtend 32 ≠ 4294967295#32) : v ≠ 127#8 ∧ v ≠ 255#8 :=
  ⟨fun e => h1 (by rw [e]; decide), fun e => h2 (by rw [e]; decide)⟩

/-- Arguments the precondition holds of are tame. -/
theorem tame_of_pre [Cert.Pre_inputs_tame.Facts] (h : fn (F := Ideal) x w s a b g = fun _ => 1#1) : Tame x w s a b := by
  have h0 := congrFun h (fun a => a.elim0)
  simp only [fn, fn_part1, fn_part2] at h0
  have hm : ∀ i : Fin 256, Host.reduce FloatOps.maximumf (Host.absf (extf (F := Ideal) .f32 x Facts.bitsLt_bf16_f32)) (constant (F := Ideal) S_ .f32 0xFF800000#32)
      Facts.reducesTo_S1x256x1152_S1x256_d2 Facts.h_S_ (ix2 0 i) = rowMax (fun k : Fin 1152 => x (ix3 0 i k)) := by
    intro i
    pointwise [rowMax]
  generalize Host.reduce FloatOps.maximumf (Host.absf (extf (F := Ideal) .f32 x Facts.bitsLt_bf16_f32)) (constant (F := Ideal) S_ .f32 0xFF800000#32)
      Facts.reducesTo_S1x256x1152_S1x256_d2 Facts.h_S_ = M at h0 hm
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  have g1 := fun i : Fin 256 => Host.reduce_andi_all _ _ _ _ _ h1 (ix2 0 i)
  have g2 := fun i : Fin 256 => Host.reduce_andi_all _ _ _ _ _ h2 (ix2 0 i)
  have g3 := fun (k : Fin 1152) (j : Fin 27648) => Host.reduce_andi_all _ _ _ _ _ h3 (ix2 k j)
  have g4 := fun (j : Fin 27648) => Host.reduce_andi_all _ _ _ _ _ h4 (ix1 j)
  have g5 := fun (k : Fin 1152) (r : Fin 16) => Host.reduce_andi_all _ _ _ _ _ h5 (ix2 k r)
  have g6 := fun (r : Fin 16) (j : Fin 27648) => Host.reduce_andi_all _ _ _ _ _ h6 (ix2 r j)
  constructor
  · intro i
    rw [← hm i]
    exact ofBool_one _ (g1 i)
  · intro i
    rw [← hm i, ← Ideal.ofBits_zero (φ := .f32)]
    exact (IntOp.ori_eq_one.1 (g2 i)).imp (ofBool_one _) (ofBool_one _)
  · intro k j
    obtain ⟨e1, e2⟩ := IntOp.andi_eq_one.1 (g3 k j)
    exact word_ne _ (IntOp.cmpi_ne.1 e1) (IntOp.cmpi_ne.1 e2)
  · intro j
    obtain ⟨e1, e2⟩ := IntOp.andi_eq_one.1 (g4 j)
    have e1 := ofBool_one _ e1
    have e2 := ofBool_one _ e2
    rw [← ofBits_inf, ← Ideal.ofBits_zero (φ := .f32)]
    exact ⟨e1, e2⟩
  · intro k r
    rw [← ofBits_inf]
    exact ofBool_one _ (g5 k r)
  · intro r j
    rw [← ofBits_inf]
    exact ofBool_one _ (g6 r j)

/-- A number of bounded magnitude is real. -/
theorem real_of_abs (v : EReal) (h : FloatOps.absf (F := Ideal) (φ := .f32) v < ⊤) : ∃ r : ℝ, v = (r : EReal) := by
  have h : max v (-v) < ⊤ := h
  have h1 : v ≠ ⊤ := fun e => by simp [e] at h
  have h2 : v ≠ ⊥ := fun e => by simp [e] at h
  exact ⟨v.toReal, (EReal.coe_toReal h1 h2).symm⟩

/-- Every magnitude of a row is at most the largest. -/
theorem abs_le_rowMax {n : ℕ} (f : Fin n → EReal) (k : Fin n) : FloatOps.absf (F := Ideal) (φ := .f32) (f k) ≤ rowMax f := by
  unfold rowMax
  rw [Finset.le_fold_max]
  exact Or.inr ⟨k, Finset.mem_univ k, le_rfl⟩

/-- A magnitude is not negative. -/
theorem abs_nonneg' (v : EReal) : 0 ≤ FloatOps.absf (F := Ideal) (φ := .f32) v := by
  show 0 ≤ max v (-v)
  rcases le_total 0 v with h | h
  · exact le_max_of_le_left h
  · exact le_max_of_le_right (by rw [← neg_zero]; exact EReal.neg_le_neg_iff.2 h)

/-- A byte that is a number denotes a real one. -/
theorem real_of_byte (v : BitVec 8) (h : v ≠ 127#8 ∧ v ≠ 255#8) : ∃ r : ℝ, Ideal.ofBits .fp8e4m3 v = (r : EReal) := by
  show ∃ r : ℝ, Ideal.e4m3fn v = (r : EReal)
  unfold Ideal.e4m3fn
  have hv : ¬((v.extractLsb' 3 4).toNat = 15 ∧ (v.extractLsb' 0 3).toNat = 7) := by
    revert v; decide +kernel
  simp only [hv, if_false]
  split_ifs
  all_goals exact ⟨_, rfl⟩

/-- The values of tame arguments. -/
theorem values_of_tame (h : Tame x w s a b) : ∃ d : Values, d.Good
    ∧ (∀ i k, x (ix3 0 i k) = (d.X i k : EReal)) ∧ (∀ k j, Ideal.ofBits .fp8e4m3 (w (ix2 k j)) = (d.W k j : EReal))
    ∧ (∀ j, s (ix1 j) = (d.S j : EReal)) ∧ (∀ k r, a (ix2 k r) = (d.A k r : EReal)) ∧ (∀ r j, b (ix2 r j) = (d.B r j : EReal))
    ∧ ∀ j, g (ix1 j) = d.G j := by
  have top : ∀ i : Fin 256, rowMax (fun k : Fin 1152 => x (ix3 0 i k)) < ⊤ := fun i =>
    lt_of_le_of_lt (h.top i) (by simp [Ideal.ofBits, Ideal.ieee]; exact EReal.coe_lt_top _)
  choose X hX using fun i k => real_of_abs (x (ix3 0 i k)) (lt_of_le_of_lt (abs_le_rowMax (fun k : Fin 1152 => x (ix3 0 i k)) k) (top i))
  choose W hW using fun k j => real_of_byte _ (h.code k j)
  choose S hS using fun j => real_of_abs _ (h.scale j).2
  choose A hA using fun k r => real_of_abs _ (h.left k r)
  choose B hB using fun r j => real_of_abs _ (h.right r j)
  have row : ∀ i : Fin 256, ∃ (a : ℝ) (b : ℕ), rowMax (fun k : Fin 1152 => x (ix3 0 i k)) = (a : EReal)
      ∧ (a = 0 ∨ (2 : ℝ) ^ (-126 : ℤ) ≤ a * c448) ∧ a * c448 < (2 : ℝ) ^ (120 : ℤ) ∧ b < 255
      ∧ power b ≤ ((a * c448 : ℝ) : EReal) ∧ ((a * c448 : ℝ) : EReal) < power (b + 1)
      ∧ search ((a * c448 : ℝ) : EReal) = BitVec.ofNat 32 b := by
    intro i
    have h0 : 0 ≤ rowMax (fun k : Fin 1152 => x (ix3 0 i k)) :=
      le_trans (abs_nonneg' _) (abs_le_rowMax (fun k : Fin 1152 => x (ix3 0 i k)) 0)
    have e : rowMax (fun k : Fin 1152 => x (ix3 0 i k)) = ((rowMax (fun k : Fin 1152 => x (ix3 0 i k))).toReal : EReal) :=
      (EReal.coe_toReal (top i).ne (fun e => by simp [e] at h0)).symm
    have hl := h.low i
    have ht := h.top i
    generalize (rowMax (fun k : Fin 1152 => x (ix3 0 i k))).toReal = q at e
    rw [e] at h0 hl ht
    rw [ofBits_min, ofBits_c448, ← EReal.coe_mul, EReal.coe_le_coe_iff] at hl
    exact Values.row_exists _ q e (EReal.coe_nonneg.1 h0) (hl.imp_left fun h => EReal.coe_injective h) (bound q ht)
  choose p c hp hc using row
  refine ⟨⟨X, W, S, A, B, fun j => g (ix1 j), fun i => expoOf (c i)⟩, ⟨fun i => ⟨p i, c i, ?_, ?_⟩, fun j hj => ?_⟩, hX, hW, hS, hA, hB, fun j => rfl⟩
  · rw [← hp i]
    exact congrArg rowMax (funext fun k => (hX i k).symm)
  · obtain ⟨h1, h2, h3, h4, h5, h6⟩ := hc i
    exact ⟨h1, h2, h3, h4, h5, h6, rfl⟩
  · have hj : S j = 0 := hj
    have := (h.scale j).1
    rw [hS j, hj] at this
    have : (0 : EReal) < max ((0 : ℝ) : EReal) (-((0 : ℝ) : EReal)) := this
    simp at this

end Cert.Dora

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.K.Frame
public import proofs.«01_k».proof.Proof.KI.Value
public import proofs.«01_k».proof.Proof.RI.Value
public import proofs.«01_k».proof.Proof.Pre
public import Idealize.ShloMosaic.Adequacy
public import Idealize.ShloMosaic.Init

@[expose] public section

noncomputable section

namespace Cert.Proof

open Idealize.ShloMosaic Idealize.SL.Sem Cert.Kernel

/-- On tame arguments the kernel over the reals and the reference leave the same four arrays. -/
theorem algebraic : Cert.algebraic_KernelIdeal_ReferenceIdeal_pre_inputs_tame (hKernelIdeal := Cert.KernelIdeal.Gen.facts)
    (hReferenceIdeal := Cert.ReferenceIdeal.Gen.facts) (hPre_inputs_tame := Cert.Dora.preFacts) := by
  intro m g m' g' hpre hagree
  have values : ∀ c, ∃ d : Cert.Dora.Values, d.Good ∧ Cert.KernelIdeal.Gen.Reads m d c ∧ Cert.ReferenceIdeal.Gen.Reads m' d c := by
    intro c
    haveI := Cert.Dora.preFacts
    obtain ⟨d, hd, hx, hw, hs, ha, hb, hg⟩ := Cert.Dora.values_of_tame _ _ _ _ _ _ (Cert.Dora.tame_of_pre _ _ _ _ _ _ (hpre c))
    obtain ⟨e0, e1, e2, e3, e4, e5⟩ := hagree c
    exact ⟨d, hd, ⟨hx, hw, hs, ha, hb, hg⟩, ⟨fun i k => (congrFun e0 _).trans (hx i k),
      fun k j => (congrArg (Ideal.ofBits .fp8e4m3) (congrFun e1 _)).trans (hw k j), fun j => (congrFun e2 _).trans (hs j),
      fun k r => (congrFun e3 _).trans (ha k r), fun r j => (congrFun e4 _).trans (hb r j), fun j => (congrFun e5 _).trans (hg j)⟩⟩
  choose d hd hk hr using values
  refine ⟨fun c => (d c).outArr, fun c => (d c).normArr, fun c => (d c).codeArr, fun c => (d c).scaleArr, ?_, ?_⟩
  · run_from Cert.KernelIdeal.Gen.run_main m g
    · exact Cert.KernelIdeal.Gen.final_6 (hk c) (hd c)
    · exact Cert.KernelIdeal.Gen.final_7 (hk c) (hd c)
    · exact Cert.KernelIdeal.Gen.final_8 (hk c) (hd c)
    · exact Cert.KernelIdeal.Gen.final_9 (hk c) (hd c)
  · refine (θ_run _ _ _).mono (fun r h c => ?_) (Cert.ReferenceIdeal.Value.run_blocks m' g')
    obtain ⟨h6, h7, h8, h9, h⟩ := h c
    exact ⟨h6.trans (Cert.ReferenceIdeal.Gen.final_6 (hr c) (hd c)), h7.trans (Cert.ReferenceIdeal.Gen.final_7 (hr c) (hd c)),
      h8.trans (Cert.ReferenceIdeal.Gen.final_8 (hr c) (hd c)), h9.trans (Cert.ReferenceIdeal.Gen.final_9 (hr c) (hd c)), h⟩

/-- Everything the statement claims. -/
theorem claim : Cert.Claim := ⟨Cert.Kernel.Gen.facts, Cert.KernelIdeal.Gen.facts, Cert.ReferenceIdeal.Gen.facts, Cert.Dora.preFacts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
